-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S64x4096x512 : Shape := ⟨3, ![64, 4096, 512]⟩
abbrev S64x4096 : Shape := ⟨2, ![64, 4096]⟩
abbrev S4x128 : Shape := ⟨2, ![4, 128]⟩
abbrev S128 : Shape := ⟨1, ![128]⟩
abbrev S128x128 : Shape := ⟨2, ![128, 128]⟩
abbrev S64x4096x1 : Shape := ⟨3, ![64, 4096, 1]⟩
abbrev S_ : Shape := ⟨0, ![]⟩

class Facts : Prop where
  bcast_S64x4096_S64x4096x1_0_1 : S64x4096.BroadcastsInDim S64x4096x1 (![0, 1] : Fin 2 → Fin S64x4096x1.rank)
  bcast_S_S64x4096x512 : S_.BroadcastsInDim S64x4096x512 (![] : Fin 0 → Fin S64x4096x512.rank)
  bcast_S64x4096x1_S64x4096x512_0_1_2 : S64x4096x1.BroadcastsInDim S64x4096x512 (![0, 1, 2] : Fin 3 → Fin S64x4096x512.rank)
  reducesTo_S64x4096x512_S_d0_1_2 : S64x4096x512.ReducesTo [0, 1, 2] S_
  h_S_ : 0 < S_.numel

variable [Facts]

def fn_where {F : FTy → Type} [FloatOps F] (arg0 : IVec S64x4096x1 1) (arg1 : IVec S64x4096x512 1) (arg2 : IVec S64x4096x512 1) : IVec S64x4096x512 1 :=
  let v0 : IVec S64x4096x512 1 := broadcastInDim S64x4096x512 ![0, 1, 2] bcast_S64x4096x1_S64x4096x512_0_1_2 arg0
  let v1 : IVec S64x4096x512 1 := select v0 arg1 arg2
  v1

def fn {F : FTy → Type} [FloatOps F] (main_arg0 : FVec F S64x4096x512 .f32) (main_arg1 : IVec S64x4096 1) (main_arg2 : FVec F S4x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : IVec S64x4096x1 1 := broadcastInDim S64x4096x1 ![0, 1] bcast_S64x4096_S64x4096x1_0_1 main_arg1
  let main_cst : FVec F S_ .f32 := constant S_ .f32 0x49644580#32
  let main_v1 : FVec F S64x4096x512 .f32 := broadcastInDim S64x4096x512 ![] bcast_S_S64x4096x512 main_cst
  let main_v2 : IVec S64x4096x512 1 := cmpf .ole main_arg0 main_v1
  let main_cst_0 : FVec F S_ .f32 := constant S_ .f32 0xC77DE800#32
  let main_v3 : FVec F S64x4096x512 .f32 := broadcastInDim S64x4096x512 ![] bcast_S_S64x4096x512 main_cst_0
  let main_v4 : IVec S64x4096x512 1 := cmpf .oge main_arg0 main_v3
  let main_cst_1 : FVec F S_ .f32 := constant S_ .f32 0x7F800000#32
  let main_v5 : FVec F S64x4096x512 .f32 := broadcastInDim S64x4096x512 ![] bcast_S_S64x4096x512 main_cst_1
  let main_v6 : IVec S64x4096x512 1 := cmpf .olt main_arg0 main_v5
  let main_v7 : IVec S64x4096x512 1 := andi main_v4 main_v6
  let main_v8 : IVec S64x4096x512 1 := fn_where (F := F) main_v0 main_v2 main_v7
  let main_c : IVec S_ 1 := constantI S_ 1 1#1
  let main_v9 : IVec S_ 1 := (fun x v => Host.reduce IntOp.andi x v reducesTo_S64x4096x512_S_d0_1_2 h_S_) main_v8 main_c
  main_v9
-- ==== Kernel.lean ====
abbrev S64x4096x512 : Shape := ⟨3, ![64, 4096, 512]⟩
abbrev S64x4096 : Shape := ⟨2, ![64, 4096]⟩
abbrev S4x128 : Shape := ⟨2, ![4, 128]⟩
abbrev S128 : Shape := ⟨1, ![128]⟩
abbrev S128x128 : Shape := ⟨2, ![128, 128]⟩
abbrev S1x128 : Shape := ⟨2, ![1, 128]⟩
abbrev S64x128 : Shape := ⟨2, ![64, 128]⟩
abbrev S8x512x512 : Shape := ⟨3, ![8, 512, 512]⟩
abbrev S8x512 : Shape := ⟨2, ![8, 512]⟩
abbrev S8x128 : Shape := ⟨2, ![8, 128]⟩
abbrev S8x1 : Shape := ⟨2, ![8, 1]⟩
abbrev S8x512x1 : Shape := ⟨3, ![8, 512, 1]⟩
abbrev S8 : Shape := ⟨1, ![8]⟩
abbrev S8x1x1 : Shape := ⟨3, ![8, 1, 1]⟩
abbrev S8x4 : Shape := ⟨2, ![8, 4]⟩

abbrev nBuf : Space → Nat
  | .hbm => 14
  | .vmem => 19
  | .smem => 0
  | _ => 0

abbrev bufTy : (tb : Table) → Fin (tcTables nBuf tb) → BufTy
  | .hbm, ⟨0, _⟩ => ⟨S64x4096x512, .f32⟩
  | .hbm, ⟨1, _⟩ => ⟨S64x4096, .i1⟩
  | .hbm, ⟨2, _⟩ => ⟨S4x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x4096, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S64x128, .f32⟩
  | .local _ .vmem, ⟨0, _⟩ => ⟨S8x512x512, .f32⟩
  | .local _ .vmem, ⟨1, _⟩ => ⟨S8x512x512, .f32⟩
  | .local _ .vmem, ⟨2, _⟩ => ⟨S8x512, .f32⟩
  | .local _ .vmem, ⟨3, _⟩ => ⟨S8x512, .f32⟩
  | .local _ .vmem, ⟨4, _⟩ => ⟨S4x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S8x128, .f32⟩
  | .local _ .vmem, ⟨11, _⟩ => ⟨S8x128, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x1, .f32⟩
  | .local _ .vmem, ⟨16, _⟩ => ⟨S8x1, .f32⟩
  | .local _ .vmem, ⟨17, _⟩ => ⟨S8x512, .f32⟩
  | .local _ .vmem, ⟨18, _⟩ => ⟨S8x1, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![8, 2, 8], ![false, false, false]⟩

def k0_cond5 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_5 : BitVec 32 := 0#32
  let v10 : BitVec 1 := Scalar.cmpi .ne v9 c0_i32_5
  v10

def k0_cond7 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_16 : BitVec 32 := 0#32
  let v31 : BitVec 1 := Scalar.cmpi .ne v30 c0_i32_16
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S64x4096x512 : Shape := ⟨3, ![64, 4096, 512]⟩
abbrev S64x4096 : Shape := ⟨2, ![64, 4096]⟩
abbrev S4x128 : Shape := ⟨2, ![4, 128]⟩
abbrev S128 : Shape := ⟨1, ![128]⟩
abbrev S128x128 : Shape := ⟨2, ![128, 128]⟩
abbrev S64x4096x1 : Shape := ⟨3, ![64, 4096, 1]⟩
abbrev S_ : Shape := ⟨0, ![]⟩
abbrev S64x1 : Shape := ⟨2, ![64, 1]⟩
abbrev S64x512 : Shape := ⟨2, ![64, 512]⟩
abbrev S64 : Shape := ⟨1, ![64]⟩
abbrev S64x1x512 : Shape := ⟨3, ![64, 1, 512]⟩
abbrev S64x1x1 : Shape := ⟨3, ![64, 1, 1]⟩
abbrev S64x2048x512 : Shape := ⟨3, ![64, 2048, 512]⟩
abbrev S64x2048x1 : Shape := ⟨3, ![64, 2048, 1]⟩
abbrev S64x4 : Shape := ⟨2, ![64, 4]⟩
abbrev S64x128 : Shape := ⟨2, ![64, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x4096, .i1⟩
  | .hbm, ⟨2, _⟩ => ⟨S4x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x4096, .i1⟩
  | .hbm, ⟨9, _⟩ => ⟨S64x4096, .f32⟩
  | .hbm, ⟨10, _⟩ => ⟨S64x4096x1, .f32⟩
  | .hbm, ⟨11, _⟩ => ⟨S_, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x4096x512, .f32⟩
  | .hbm, ⟨17, _⟩ => ⟨S64x4096x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S64x4096x1, .i1⟩
  | .hbm, ⟨23, _⟩ => ⟨S_, .f32⟩
  | .hbm, ⟨24, _⟩ => ⟨S_, .f32⟩
  | .hbm, ⟨25, _⟩ => ⟨S64x4096x512, .i1⟩
  | .hbm, ⟨26, _⟩ => ⟨S64x4096x512, .f32⟩
  | .hbm, ⟨27, _⟩ => ⟨S64x4096x512, .f32⟩
  | .hbm, ⟨28, _⟩ => ⟨S_, .f32⟩
  | .hbm, ⟨29, _⟩ => ⟨S64, .f32⟩
  | .hbm, ⟨30, _⟩ => ⟨S64x1, .f32⟩
  | .hbm, ⟨31, _⟩ => ⟨S64x1x512, .f32⟩
  | .hbm, ⟨32, _⟩ => ⟨S64x4096x512, .f32⟩
  | .hbm, ⟨33, _⟩ => ⟨S64x4096x512, .f32⟩
  | .hbm, ⟨34, _⟩ => ⟨S64x4096x512, .f32⟩
  | .hbm, ⟨35, _⟩ => ⟨S64x4096x512, .f32⟩
  | .hbm, ⟨36, _⟩ => ⟨S64x4096x512, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S_, .f32⟩
  | .hbm, ⟨48, _⟩ => ⟨S64x1, .f32⟩
  | .hbm, ⟨49, _⟩ => ⟨S64x1, .f32⟩
  | .hbm, ⟨50, _⟩ => ⟨S64x1x1, .f32⟩
  | .hbm, ⟨51, _⟩ => ⟨S64x4096x512, .f32⟩
  | .hbm, ⟨52, _⟩ => ⟨S64x4096x512, .i1⟩
  | .hbm, ⟨53, _⟩ => ⟨S64x4096x512, .f32⟩
  | .hbm, ⟨54, _⟩ => ⟨S64x4096x512, .f32⟩
  | .hbm, ⟨55, _⟩ => ⟨S64x4096x512, .f32⟩
  | .hbm, ⟨56, _⟩ => ⟨S_, .f32⟩
  | .hbm, ⟨57, _⟩ => ⟨S64x512, .f32⟩
  | .hbm, ⟨58, _⟩ => ⟨S_, .f32⟩
  | .hbm, ⟨59, _⟩ => ⟨S64, .f32⟩
  | .hbm, ⟨60, _⟩ => ⟨S64x1, .f32⟩
  | .hbm, ⟨61, _⟩ => ⟨S64x2048x512, .f32⟩
  | .hbm, ⟨62, _⟩ => ⟨S64x2048x1, .f32⟩
  | .hbm, ⟨63, _⟩ => ⟨S64x2048x512, .f32⟩
  | .hbm, ⟨64, _⟩ => ⟨S64x2048x512, .f32⟩
  | .hbm, ⟨65, _⟩ => ⟨S_, .f32⟩
  | .hbm, ⟨66, _⟩ => ⟨S64x512, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x2048x512, .f32⟩
  | .hbm, ⟨71, _⟩ => ⟨S64x2048x1, .f32⟩
  | .hbm, ⟨72, _⟩ => ⟨S64x2048x512, .f32⟩
  | .hbm, ⟨73, _⟩ => ⟨S64x2048x512, .f32⟩
  | .hbm, ⟨74, _⟩ => ⟨S_, .f32⟩
  | .hbm, ⟨75, _⟩ => ⟨S64x512, .f32⟩
  | .hbm, ⟨76, _⟩ => ⟨S_, .f32⟩
  | .hbm, ⟨77, _⟩ => ⟨S64, .f32⟩
  | .hbm, ⟨78, _⟩ => ⟨S64x1, .f32⟩
  | .hbm, ⟨79, _⟩ => ⟨S64x1, .f32⟩
  | .hbm, ⟨80, _⟩ => ⟨S64x1, .f32⟩
  | .hbm, ⟨81, _⟩ => ⟨S64x4, .f32⟩
  | .hbm, ⟨82, _⟩ => ⟨S64x128, .f32⟩
  | .hbm, ⟨83, _⟩ => ⟨S1x128, .f32⟩
  | .hbm, ⟨84, _⟩ => ⟨S64x128, .f32⟩
  | .hbm, ⟨85, _⟩ => ⟨S64x128, .f32⟩
  | .hbm, ⟨86, _⟩ => ⟨S_, .f32⟩
  | .hbm, ⟨87, _⟩ => ⟨S64, .f32⟩
  | .hbm, ⟨88, _⟩ => ⟨S64x1, .f32⟩
  | .hbm, ⟨89, _⟩ => ⟨S_, .f32⟩
  | .hbm, ⟨90, _⟩ => ⟨S64x1, .f32⟩
  | .hbm, ⟨91, _⟩ => ⟨S64x1, .f32⟩
  | .hbm, ⟨92, _⟩ => ⟨S64x128, .f32⟩
  | .hbm, ⟨93, _⟩ => ⟨S64x128, .f32⟩
  | .hbm, ⟨94, _⟩ => ⟨S64x128, .f32⟩
  | .hbm, ⟨95, _⟩ => ⟨S_, .f32⟩
  | .hbm, ⟨96, _⟩ => ⟨S64, .f32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S_, .f32⟩
  | .hbm, ⟨104, _⟩ => ⟨S64x1, .f32⟩
  | .hbm, ⟨105, _⟩ => ⟨S64x1, .f32⟩
  | .hbm, ⟨106, _⟩ => ⟨S64x1, .f32⟩
  | .hbm, ⟨107, _⟩ => ⟨S64x128, .f32⟩
  | .hbm, ⟨108, _⟩ => ⟨S64x128, .f32⟩
  | .hbm, ⟨109, _⟩ => ⟨S1x128, .f32⟩
  | .hbm, ⟨110, _⟩ => ⟨S64x128, .f32⟩
  | .hbm, ⟨111, _⟩ => ⟨S64x128, .f32⟩
  | .hbm, ⟨112, _⟩ => ⟨S1x128, .f32⟩
  | .hbm, ⟨113, _⟩ => ⟨S64x128, .f32⟩
  | .hbm, ⟨114, _⟩ => ⟨S64x128, .f32⟩
  | .hbm, ⟨115, _⟩ => ⟨S_, .f32⟩
  | .hbm, ⟨116, _⟩ => ⟨S64x128, .f32⟩
  | .hbm, ⟨117, _⟩ => ⟨S64x128, .f32⟩
  | .hbm, ⟨118, _⟩ => ⟨S64x128, .f32⟩
  | .hbm, ⟨119, _⟩ => ⟨S_, .f32⟩
  | .hbm, ⟨120, _⟩ => ⟨S64x128, .f32⟩
  | .hbm, ⟨121, _⟩ => ⟨S64x128, .f32⟩
  | .hbm, ⟨122, _⟩ => ⟨S64x128, .f32⟩
  | .hbm, ⟨123, _⟩ => ⟨S64x128, .f32⟩
  | .hbm, ⟨124, _⟩ => ⟨S64x128, .f32⟩
  | .hbm, ⟨125, _⟩ => ⟨S1x128, .f32⟩
  | .hbm, ⟨126, _⟩ => ⟨S64x128, .f32⟩
  | .hbm, ⟨127, _⟩ => ⟨S64x128, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_20 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Proof.Whole.lean ====
/- Loads and stores of a whole buffer, stated so that they rewrite at literal sizes: the sizes of the rectangle are
   not matched by their spelling. -/
module

public import Idealize.ShloMosaic.Lib.VecWindow

@[expose] public section

noncomputable section

namespace Cert.Whole

open Idealize.ShloMosaic

variable {sig : RefSig} {κ : Kind} {sp : Space} {s : Shape} {e : EltTy} {Val : EltTy → Type}

/-- A load of a whole buffer reads its contents. -/
theorem load (v : View sig κ sp s e) (f : v.ty.Contents Val) {off : Fin s.rank → ℕ} (inb : ∀ a, off a + s.size a ≤ s.size a) :
    v.readAt Val (Rect.unit off (no_index s.size) inb).toLoadRect f = v.read Val f :=
  View.readAt_full v f inb

/-- A store of a whole buffer leaves its payload. -/
theorem store (v : View sig κ sp s e) (f : v.ty.Contents Val) {off : Fin s.rank → ℕ} (inb : ∀ a, off a + s.size a ≤ s.size a)
    (w : s.Idx → Val e) (L : List (View.Piece Val s e)) :
    v.read Val (v.writes Val f ((⟨Rect.unit off (no_index s.size) inb, w⟩ : View.Piece Val s e) :: L)) = w :=
  View.read_writes_full v f inb w L

/-- A load of a whole buffer after a store of it reads the payload. -/
theorem load_store [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov ((⟨Rect.unit off' (no_index s.size) inb', w⟩ : View.Piece Val s e) :: L)
      (Rect.unit off (no_index s.size) inb).toLoadRect = w :=
  View.readCov_full v inb inb' w L

end Cert.Whole

end
-- ==== Proof.KernelIdeal.Step.lean ====
/- What one grid point does to the seven scratch buffers, as plain functions: the scratch contents are a
   structure, a grid point's work is a function of the point's place in its batch block (`k`, 0 to 15: the first
   eight points accumulate, the last eight count peaks), and the sixteen points of a block make the scratch
   contents at its end independent of what the scratch held before. -/
module

public import proofs.«01_k».proof.Proof.Gen.KernelIdeal.Skeleton

@[expose] public section

noncomputable section

namespace Cert.KernelIdeal.Gen

open Idealize.ShloMosaic

variable {F : FTy → Type} [FloatOps F]

/-- The contents of the seven scratch buffers. -/
@[ext] structure Scratch (F : FTy → Type) [FloatOps F] where
  /-- Sum of the valid samples of the first half of the time axis. -/
  s1e : Vec F S8x512 .f32
  /-- Sum of the valid samples of the second half of the time axis. -/
  s1l : Vec F S8x512 .f32
  /-- Sum of the squares of the valid samples. -/
  s2 : Vec F S8x512 .f32
  /-- Number of valid time steps. -/
  cnt : Vec F S8x1 .f32
  /-- Largest valid sample. -/
  mx : Vec F S8x1 .f32
  /-- Number of valid samples above the threshold. -/
  pk : Vec F S8x512 .f32
  /-- The threshold. -/
  thr : Vec F S8x1 .f32

namespace Scratch

/-- The five accumulators at their initial values. -/
def initAcc (S : Scratch F) : Scratch F :=
  { S with s1e := k0_pay7, s1l := k0_pay8, s2 := k0_pay9, cnt := k0_pay10, mx := k0_pay11 }

/-- One tile of the first half of the time axis, accumulated. -/
def addEarly (x : Vec F S8x512x512 .f32) (mk : Vec F S8x512 .f32) (S : Scratch F) : Scratch F :=
  { S with s1e := k0_pay14 x (k0_pay1 mk) S.s1e, s2 := k0_pay16 x (k0_pay1 mk) S.s2,
           cnt := k0_pay17 (k0_pay1 mk) S.cnt, mx := k0_pay2 (k0_pay18 x (k0_pay1 mk)) S.mx }

/-- One tile of the second half of the time axis, accumulated. -/
def addLate (x : Vec F S8x512x512 .f32) (mk : Vec F S8x512 .f32) (S : Scratch F) : Scratch F :=
  { S with s1l := k0_pay15 x (k0_pay1 mk) S.s1l, s2 := k0_pay16 x (k0_pay1 mk) S.s2,
           cnt := k0_pay17 (k0_pay1 mk) S.cnt, mx := k0_pay2 (k0_pay18 x (k0_pay1 mk)) S.mx }

/-- The peak counter cleared and the threshold computed. -/
def initPk (S : Scratch F) : Scratch F :=
  { S with pk := k0_pay3, thr := k0_pay4 S.cnt S.s1e S.s1l }

/-- One tile's samples above the threshold, counted. -/
def addPk (x : Vec F S8x512x512 .f32) (mk : Vec F S8x512 .f32) (S : Scratch F) : Scratch F :=
  { S with pk := k0_pay5 x mk S.thr S.pk }

/-- What point `k` of a batch block does to the scratch. -/
def step (k : ℕ) (x : Vec F S8x512x512 .f32) (mk : Vec F S8x512 .f32) (S : Scratch F) : Scratch F :=
  if k = 0 then addEarly x mk (initAcc S)
  else if k < 4 then addEarly x mk S
  else if k < 8 then addLate x mk S
  else if k = 8 then addPk x mk (initPk S)
  else addPk x mk S

/-- The head: the output block from the scratch contents at the end of a batch block. -/
def head (W1 : Vec F S4x128 .f32) (b1 g be : Vec F S1x128 .f32) (W2 : Vec F S128x128 .f32) (b2 : Vec F S1x128 .f32) (S : Scratch F) :
    Vec F S8x128 .f32 :=
  k0_pay6 (k0_pay20 (k0_pay19 S.cnt S.s1e S.s1l S.mx S.s2 S.cnt S.pk S.s1e S.s1l) W1 b1 g be) W2
    (constant S8x128 .f32 0x00000000#32) b2

/-- Some scratch contents. -/
def zero : Scratch F := ⟨k0_pay7, k0_pay7, k0_pay7, k0_pay10, k0_pay10, k0_pay7, k0_pay10⟩

/-- The two contents have the same accumulators. -/
def Agree (S S' : Scratch F) : Prop :=
  S.s1e = S'.s1e ∧ S.s1l = S'.s1l ∧ S.s2 = S'.s2 ∧ S.cnt = S'.cnt ∧ S.mx = S'.mx

theorem agree_first (x : Vec F S8x512x512 .f32) (mk : Vec F S8x512 .f32) (S S' : Scratch F) :
    Agree (step 0 x mk S) (step 0 x mk S') := by
  simp [Agree, step, addEarly, initAcc]

theorem agree_step (k : ℕ) (x : Vec F S8x512x512 .f32) (mk : Vec F S8x512 .f32) {S S' : Scratch F} (h : Agree S S') :
    Agree (step k x mk S) (step k x mk S') := by
  obtain ⟨h1, h2, h3, h4, h5⟩ := h
  unfold step
  split_ifs <;> simp [Agree, addEarly, addLate, addPk, initAcc, initPk, h1, h2, h3, h4, h5]

theorem eq_mid (x : Vec F S8x512x512 .f32) (mk : Vec F S8x512 .f32) {S S' : Scratch F} (h : Agree S S') :
    step 8 x mk S = step 8 x mk S' := by
  obtain ⟨h1, h2, h3, h4, h5⟩ := h
  simp [step, addPk, initPk, h1, h2, h3, h4, h5]

/-- The scratch after `n` grid points, from contents `S`: point `t` reads the blocks `X t` and `M t`. -/
def run (X : ℕ → Vec F S8x512x512 .f32) (M : ℕ → Vec F S8x512 .f32) (S : Scratch F) : ℕ → Scratch F
  | 0 => S
  | n + 1 => step (n % 16) (X n) (M n) (run X M S n)

theorem run_agree (X : ℕ → Vec F S8x512x512 .f32) (M : ℕ → Vec F S8x512 .f32) (S S' : Scratch F) (b j : ℕ) (hj : j < 16) :
    (Agree (run X M S (16 * b + j + 1)) (run X M S' (16 * b + j + 1)))
    ∧ (8 ≤ j → run X M S (16 * b + j + 1) = run X M S' (16 * b + j + 1)) := by
  induction j with
  | zero =>
    refine ⟨?_, fun h => absurd h (by omega)⟩
    show Agree (step ((16 * b) % 16) _ _ _) (step ((16 * b) % 16) _ _ _)
    rw [show 16 * b % 16 = 0 by omega]
    exact agree_first _ _ _ _
  | succ j ih =>
    obtain ⟨ha, he⟩ := ih (by omega)
    refine ⟨agree_step _ _ _ ha, fun h => ?_⟩
    show step ((16 * b + j + 1) % 16) _ _ _ = step ((16 * b + j + 1) % 16) _ _ _
    by_cases hj8 : j = 7
    · subst hj8
      rw [show (16 * b + 7 + 1) % 16 = 8 by omega]
      exact eq_mid _ _ ha
    · rw [show run X M S (16 * b + (j + 1)) = run X M S' (16 * b + (j + 1)) from he (by omega)]

/-- At the end of a batch block the scratch does not depend on what it held before the launch. -/
theorem run_end (X : ℕ → Vec F S8x512x512 .f32) (M : ℕ → Vec F S8x512 .f32) (S S' : Scratch F) (n : ℕ) (hn : n % 16 = 15) :
    run X M S (n + 1) = run X M S' (n + 1) := by
  have h := (run_agree X M S S' (n / 16) 15 (by omega)).2 (by omega)
  rwa [show 16 * (n / 16) + 15 + 1 = n + 1 by omega] at h

end Scratch

end Cert.KernelIdeal.Gen

end
-- ==== Proof.KernelIdeal.Cases.lean ====
/- The kernel body at one grid point: the printed body runs over any whole staging and scratch buffers, leaves the
   inputs alone, takes the scratch contents `S` to `Scratch.step k`, and at the last point of a batch block stores
   the head's value into the output buffer, which it leaves alone at every other point. -/
module

public import proofs.«01_k».proof.Proof.Gen.KernelIdeal.Frame
public import proofs.«01_k».proof.Proof.KernelIdeal.Step
public import proofs.«01_k».proof.Proof.Whole

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions over the grid -/

/-- The first phase of a batch block. -/
abbrev cPhase0 (i : grid0.Coords) : Prop := (Scalar.cmpi .ne (Scalar.extui (Scalar.cmpi .eq (BitVec.ofNat 32 (i 1).val) 0#32)) 0#32) = 1#1
/-- The first tile of the time axis. -/
abbrev cFirst (i : grid0.Coords) : Prop := (Scalar.cmpi .ne (Scalar.extui (Scalar.cmpi .eq (BitVec.ofNat 32 (i 2).val) 0#32)) 0#32) = 1#1
/-- A tile of the first half of the time axis. -/
abbrev cEarly (i : grid0.Coords) : Prop := (Scalar.cmpi .ne (Scalar.extui (Scalar.cmpi .slt (BitVec.ofNat 32 (i 2).val) 4#32)) 0#32) = 1#1
/-- A tile of the second half of the time axis. -/
abbrev cLate (i : grid0.Coords) : Prop := (Scalar.cmpi .ne (Scalar.extui (Scalar.cmpi .sge (BitVec.ofNat 32 (i 2).val) 4#32)) 0#32) = 1#1
/-- The second phase of a batch block. -/
abbrev cPhase1 (i : grid0.Coords) : Prop := k0_cond5 i = 1#1
/-- The last tile of the time axis. -/
abbrev cLast (i : grid0.Coords) : Prop := k0_cond7 i = 1#1

/-- The branch conditions of point `i`, the `k`-th of its batch block. -/
structure At (i : grid0.Coords) (k : ℕ) : Prop where
  lt : k < 16
  phase0 : cPhase0 i ↔ k < 8
  first : cFirst i ↔ k % 8 = 0
  early : cEarly i ↔ k % 8 < 4
  late : cLate i ↔ 4 ≤ k % 8
  phase1 : cPhase1 i ↔ 8 ≤ k
  last : cLast i ↔ k % 8 = 7

theorem at_point : ∀ t : Fin cfg0.N, At (grid0.coords t) (t.val % 16) := fun t =>
  ⟨Nat.mod_lt _ (by decide),
   (by decide +kernel : ∀ t : Fin grid0.N, cPhase0 (grid0.coords t) ↔ t.val % 16 < 8) t,
   (by decide +kernel : ∀ t : Fin grid0.N, cFirst (grid0.coords t) ↔ t.val % 16 % 8 = 0) t,
   (by decide +kernel : ∀ t : Fin grid0.N, cEarly (grid0.coords t) ↔ t.val % 16 % 8 < 4) t,
   (by decide +kernel : ∀ t : Fin grid0.N, cLate (grid0.coords t) ↔ 4 ≤ t.val % 16 % 8) t,
   (by decide +kernel : ∀ t : Fin grid0.N, cPhase1 (grid0.coords t) ↔ 8 ≤ t.val % 16) t,
   (by decide +kernel : ∀ t : Fin grid0.N, cLast (grid0.coords t) ↔ t.val % 16 % 8 = 7) t⟩

/-- The output window is idle at every point of a batch block but the last. -/
theorem out_idle : ∀ t : Fin cfg0.N, t.val % 16 ≠ 15 → cfg0.idle 8 (grid0.coords t) = true :=
  (by decide +kernel : ∀ t : Fin grid0.N, t.val % 16 ≠ 15 → cfg0.idle 8 (grid0.coords t) = true)
/-- There the pipeline does not write its block back. -/
theorem out_noFlush : ∀ t : Fin cfg0.N, t.val % 16 ≠ 15 → (cfg0.win 8).flush t = false :=
  (by decide +kernel : ∀ t : Fin grid0.N, t.val % 16 ≠ 15 → (cfg0.win 8).flush t = false)
/-- At the last it is live. -/
theorem out_live : ∀ t : Fin cfg0.N, t.val % 16 = 15 → cfg0.idle 8 (grid0.coords t) = false :=
  (by decide +kernel : ∀ t : Fin grid0.N, t.val % 16 = 15 → cfg0.idle 8 (grid0.coords t) = false)

/-! ## The body -/

/-- The output buffer's contents after point `k` of a batch block, from its contents `d` before. -/
def outStep (k : ℕ) (d : Vec F S8x128 .f32) (W1 : Vec F S4x128 .f32) (b1 g be : Vec F S1x128 .f32) (W2 : Vec F S128x128 .f32)
    (b2 : Vec F S1x128 .f32) (S : Scratch F) : Vec F S8x128 .f32 :=
  if k = 15 then Scratch.head W1 b1 g be W2 b2 S else d

set_option maxHeartbeats 6400000 in
/-- The body's triple. The six kinds of points are told apart by `k`; each is one run of the printed body. -/
theorem body_run (c : Dev nD) (i : grid0.Coords) (k : ℕ) (hk : At i k)
    (arg3 : Memref sig .tc .vmem S8x512x512 .f32) (harg3 : arg3.IsWhole) (arg4 : Memref sig .tc .vmem S8x512 .f32) (harg4 : arg4.IsWhole) (arg5 : Memref sig .tc .vmem S4x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S8x128 .f32) (harg11 : arg11.IsWhole) (arg12 : Memref sig .tc .vmem S8x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S8x1 .f32) (harg15 : arg15.IsWhole) (arg16 : Memref sig .tc .vmem S8x1 .f32) (harg16 : arg16.IsWhole) (arg17 : Memref sig .tc .vmem S8x512 .f32) (harg17 : arg17.IsWhole) (arg18 : Memref sig .tc .vmem S8x1 .f32) (harg18 : arg18.IsWhole)
    (x0 : Vec F S8x512x512 .f32) (x1 : Vec F S8x512 .f32) (x2 : Vec F S4x128 .f32) (x3 : Vec F S1x128 .f32) (x4 : Vec F S1x128 .f32) (x5 : Vec F S1x128 .f32) (x6 : Vec F S128x128 .f32) (x7 : Vec F S1x128 .f32) (d : Vec F S8x128 .f32) (S : Scratch F) (E : Set ℕ) (K : PUnit → sProp 𝕄) :
    iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare x4
          ∗ owns (c : Thread nD τ) arg8 fullShare x5
          ∗ owns (c : Thread nD τ) arg9 fullShare x6
          ∗ owns (c : Thread nD τ) arg10 fullShare x7
          ∗ owns (c : Thread nD τ) arg11 fullShare d
          ∗ owns (c : Thread nD τ) arg12 fullShare S.s1e
          ∗ owns (c : Thread nD τ) arg13 fullShare S.s1l
          ∗ owns (c : Thread nD τ) arg14 fullShare S.s2
          ∗ owns (c : Thread nD τ) arg15 fullShare S.cnt
          ∗ owns (c : Thread nD τ) arg16 fullShare S.mx
          ∗ owns (c : Thread nD τ) arg17 fullShare S.pk
          ∗ owns (c : Thread nD τ) arg18 fullShare S.thr
          ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ owns (c : Thread nD τ) arg7 fullShare x4
          ∗ owns (c : Thread nD τ) arg8 fullShare x5
          ∗ owns (c : Thread nD τ) arg9 fullShare x6
          ∗ owns (c : Thread nD τ) arg10 fullShare x7
          ∗ owns (c : Thread nD τ) arg11 fullShare (outStep k d x2 x3 x4 x5 x6 x7 (Scratch.step k x0 x1 S))
          ∗ owns (c : Thread nD τ) arg12 fullShare (Scratch.step k x0 x1 S).s1e
          ∗ owns (c : Thread nD τ) arg13 fullShare (Scratch.step k x0 x1 S).s1l
          ∗ owns (c : Thread nD τ) arg14 fullShare (Scratch.step k x0 x1 S).s2
          ∗ owns (c : Thread nD τ) arg15 fullShare (Scratch.step k x0 x1 S).cnt
          ∗ owns (c : Thread nD τ) arg16 fullShare (Scratch.step k x0 x1 S).mx
          ∗ owns (c : Thread nD τ) arg17 fullShare (Scratch.step k x0 x1 S).pk
          ∗ owns (c : Thread nD τ) arg18 fullShare (Scratch.step k x0 x1 S).thr) -∗ K ⟨⟩))
      ⊢ wp frame (wpE (defs₀ (F := F)) Variants.none c none) E (cc0_caustic_detector i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨hlt, h0, h1, h2, h3, h4, h6⟩ := hk
  simp only [cc0_caustic_detector_eq_skeleton]; unfold cc0_caustic_detector_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
  rcases (by omega : k = 0 ∨ (0 < k ∧ k < 4) ∨ (4 ≤ k ∧ k < 8) ∨ k = 8 ∨ (8 < k ∧ k < 15) ∨ k = 15) with e | e | e | e | e | e
  on_goal 1 => have c0 := h0.mpr (by omega); have c1 := h1.mpr (by omega); have c2 := h2.mpr (by omega); have c3 := mt h3.mp (by omega); have c4 := mt h4.mp (by omega); have c6 := mt h6.mp (by omega); rw [show Scratch.step k x0 x1 S = Scratch.addEarly x0 x1 (Scratch.initAcc S) by unfold Scratch.step; split_ifs <;> first | rfl | omega]; rw [show outStep k d x2 x3 x4 x5 x6 x7 _ = d from if_neg (by omega)]
  on_goal 2 => have c0 := h0.mpr (by omega); have c1 := mt h1.mp (by omega); have c2 := h2.mpr (by omega); have c3 := mt h3.mp (by omega); have c4 := mt h4.mp (by omega); have c6 := mt h6.mp (by omega); rw [show Scratch.step k x0 x1 S = Scratch.addEarly x0 x1 S by unfold Scratch.step; split_ifs <;> first | rfl | omega]; rw [show outStep k d x2 x3 x4 x5 x6 x7 _ = d from if_neg (by omega)]
  on_goal 3 => have c0 := h0.mpr (by omega); have c1 := mt h1.mp (by omega); have c2 := mt h2.mp (by omega); have c3 := h3.mpr (by omega); have c4 := mt h4.mp (by omega); have c6 := 0; rw [show Scratch.step k x0 x1 S = Scratch.addLate x0 x1 S by unfold Scratch.step; split_ifs <;> first | rfl | omega]; rw [show outStep k d x2 x3 x4 x5 x6 x7 _ = d from if_neg (by omega)]
  on_goal 4 => have c0 := mt h0.mp (by omega); have c1 := h1.mpr (by omega); have c2 := h2.mpr (by omega); have c3 := mt h3.mp (by omega); have c4 := h4.mpr (by omega); have c6 := mt h6.mp (by omega); rw [show Scratch.step k x0 x1 S = Scratch.addPk x0 x1 (Scratch.initPk S) by unfold Scratch.step; split_ifs <;> first | rfl | omega]; rw [show outStep k d x2 x3 x4 x5 x6 x7 _ = d from if_neg (by omega)]
  on_goal 5 => have c0 := mt h0.mp (by omega); have c1 := mt h1.mp (by omega); have c2 := 0; have c3 := 0; have c4 := h4.mpr (by omega); have c6 := mt h6.mp (by omega); rw [show Scratch.step k x0 x1 S = Scratch.addPk x0 x1 S by unfold Scratch.step; split_ifs <;> first | rfl | omega]; rw [show outStep k d x2 x3 x4 x5 x6 x7 _ = d from if_neg (by omega)]
  on_goal 6 => have c0 := mt h0.mp (by omega); have c1 := mt h1.mp (by omega); have c2 := 0; have c3 := 0; have c4 := h4.mpr (by omega); have c6 := h6.mpr (by omega); rw [show Scratch.step k x0 x1 S = Scratch.addPk x0 x1 S by unfold Scratch.step; split_ifs <;> first | rfl | omega]; rw [show outStep k d x2 x3 x4 x5 x6 x7 _ = _ from if_pos e]
  all_goals
    clear h0 h1 h2 h3 h4 h6
    sl_exec (disch := first | sl_exact c0 | sl_exact c1 | sl_exact c2 | sl_exact c3 | sl_exact c4 | sl_exact c6)
    sl_step
    iapply Hk
  all_goals
    isplitl [H0]
    · iexists _; isplitr; swap; iexact H0; ipureintro
      first | with_reducible exact harg3.read_unread _ | (sl_unfold_run_names; simp only [Whole.load, Whole.store, Whole.load_store, Memref.IsWhole.read_unread]; rfl)
    isplitl [H1]
    · iexists _; isplitr; swap; iexact H1; ipureintro
      first | with_reducible exact harg4.read_unread _ | (sl_unfold_run_names; simp only [Whole.load, Whole.store, Whole.load_store, Memref.IsWhole.read_unread]; rfl)
    isplitl [H2]
    · iexists _; isplitr; swap; iexact H2; ipureintro
      first | with_reducible exact harg5.read_unread _ | (sl_unfold_run_names; simp only [Whole.load, Whole.store, Whole.load_store, Memref.IsWhole.read_unread]; rfl)
    isplitl [H3]
    · iexists _; isplitr; swap; iexact H3; ipureintro
      first | with_reducible exact harg6.read_unread _ | (sl_unfold_run_names; simp only [Whole.load, Whole.store, Whole.load_store, Memref.IsWhole.read_unread]; rfl)
    isplitl [H4]
    · iexists _; isplitr; swap; iexact H4; ipureintro
      first | with_reducible exact harg7.read_unread _ | (sl_unfold_run_names; simp only [Whole.load, Whole.store, Whole.load_store, Memref.IsWhole.read_unread]; rfl)
    isplitl [H5]
    · iexists _; isplitr; swap; iexact H5; ipureintro
      first | with_reducible exact harg8.read_unread _ | (sl_unfold_run_names; simp only [Whole.load, Whole.store, Whole.load_store, Memref.IsWhole.read_unread]; rfl)
    isplitl [H6]
    · iexists _; isplitr; swap; iexact H6; ipureintro
      first | with_reducible exact harg9.read_unread _ | (sl_unfold_run_names; simp only [Whole.load, Whole.store, Whole.load_store, Memref.IsWhole.read_unread]; rfl)
    isplitl [H7]
    · iexists _; isplitr; swap; iexact H7; ipureintro
      first | with_reducible exact harg10.read_unread _ | (sl_unfold_run_names; simp only [Whole.load, Whole.store, Whole.load_store, Memref.IsWhole.read_unread]; rfl)
    isplitl [H8]
    · iexists _; isplitr; swap; iexact H8; ipureintro
      first | with_reducible exact harg11.read_unread _ | (sl_unfold_run_names; simp only [Whole.load, Whole.store, Whole.load_store, Memref.IsWhole.read_unread]; rfl)
    isplitl [H9]
    · iexists _; isplitr; swap; iexact H9; ipureintro
      first | with_reducible exact harg12.read_unread _ | (sl_unfold_run_names; simp only [Whole.load, Whole.store, Whole.load_store, Memref.IsWhole.read_unread]; rfl)
    isplitl [H10]
    · iexists _; isplitr; swap; iexact H10; ipureintro
      first | with_reducible exact harg13.read_unread _ | (sl_unfold_run_names; simp only [Whole.load, Whole.store, Whole.load_store, Memref.IsWhole.read_unread]; rfl)
    isplitl [H11]
    · iexists _; isplitr; swap; iexact H11; ipureintro
      first | with_reducible exact harg14.read_unread _ | (sl_unfold_run_names; simp only [Whole.load, Whole.store, Whole.load_store, Memref.IsWhole.read_unread]; rfl)
    isplitl [H12]
    · iexists _; isplitr; swap; iexact H12; ipureintro
      first | with_reducible exact harg15.read_unread _ | (sl_unfold_run_names; simp only [Whole.load, Whole.store, Whole.load_store, Memref.IsWhole.read_unread]; rfl)
    isplitl [H13]
    · iexists _; isplitr; swap; iexact H13; ipureintro
      first | with_reducible exact harg16.read_unread _ | (sl_unfold_run_names; simp only [Whole.load, Whole.store, Whole.load_store, Memref.IsWhole.read_unread]; rfl)
    isplitl [H14]
    · iexists _; isplitr; swap; iexact H14; ipureintro
      first | with_reducible exact harg17.read_unread _ | (sl_unfold_run_names; simp only [Whole.load, Whole.store, Whole.load_store, Memref.IsWhole.read_unread]; rfl)
    iexists _; isplitr; swap; iexact H15; ipureintro
    first | with_reducible exact harg18.read_unread _ | (sl_unfold_run_names; simp only [Whole.load, Whole.store, Whole.load_store, Memref.IsWhole.read_unread]; rfl)

end Cert.KernelIdeal.Gen

end
-- ==== Proof.KernelIdeal.Launch.lean ====
/- The run of the whole launch: the scratch contents before grid point `t` are `Scratch.run` of `t` from SOME contents
   (whatever the buffers held at launch), the output block stored at the last point of a batch block is the head of
   the scratch contents there, and with these as proof data every execution of @main ends, the arguments unchanged. -/
module

public import proofs.«01_k».proof.Proof.KernelIdeal.Cases
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers -/

abbrev stg0 (t : Fin cfg0.N) : Memref sig .tc .vmem S8x512x512 .f32 := win0_0.stage (cfg0.slots t 0)
abbrev stg1 (t : Fin cfg0.N) : Memref sig .tc .vmem S8x512 .f32 := win0_1.stage (cfg0.slots t 1)
abbrev stg2 (t : Fin cfg0.N) : Memref sig .tc .vmem S4x128 .f32 := win0_2.stage (cfg0.slots t 2)
abbrev stg3 (t : Fin cfg0.N) : Memref sig .tc .vmem S1x128 .f32 := win0_3.stage (cfg0.slots t 3)
abbrev stg4 (t : Fin cfg0.N) : Memref sig .tc .vmem S1x128 .f32 := win0_4.stage (cfg0.slots t 4)
abbrev stg5 (t : Fin cfg0.N) : Memref sig .tc .vmem S1x128 .f32 := win0_5.stage (cfg0.slots t 5)
abbrev stg6 (t : Fin cfg0.N) : Memref sig .tc .vmem S128x128 .f32 := win0_6.stage (cfg0.slots t 6)
abbrev stg7 (t : Fin cfg0.N) : Memref sig .tc .vmem S1x128 .f32 := win0_7.stage (cfg0.slots t 7)
abbrev stg8 (t : Fin cfg0.N) : Memref sig .tc .vmem S8x128 .f32 := win0_8.stage (cfg0.slots t 8)
abbrev scr0 : Memref sig .tc .vmem S8x512 .f32 := Memref.whole cc0_scratch0
abbrev scr1 : Memref sig .tc .vmem S8x512 .f32 := Memref.whole cc0_scratch1
abbrev scr2 : Memref sig .tc .vmem S8x512 .f32 := Memref.whole cc0_scratch2
abbrev scr3 : Memref sig .tc .vmem S8x1 .f32 := Memref.whole cc0_scratch3
abbrev scr4 : Memref sig .tc .vmem S8x1 .f32 := Memref.whole cc0_scratch4
abbrev scr5 : Memref sig .tc .vmem S8x512 .f32 := Memref.whole cc0_scratch5
abbrev scr6 : Memref sig .tc .vmem S8x1 .f32 := Memref.whole cc0_scratch6

/-- The scratch buffers owned at contents `S`. -/
def scrOwns (c : Dev nD) (S : Scratch F) : sProp 𝕄 :=
  iprop(owns (c : Thread nD τ) scr0 fullShare S.s1e
    ∗ owns (c : Thread nD τ) scr1 fullShare S.s1l
    ∗ owns (c : Thread nD τ) scr2 fullShare S.s2
    ∗ owns (c : Thread nD τ) scr3 fullShare S.cnt
    ∗ owns (c : Thread nD τ) scr4 fullShare S.mx
    ∗ owns (c : Thread nD τ) scr5 fullShare S.pk
    ∗ owns (c : Thread nD τ) scr6 fullShare S.thr)

/-- What the launch hands over: the scratch buffers at anything, and the generator register. -/
theorem launch_scratch (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]
  simp only [scr0, scr1, scr2, scr3, scr4, scr5, scr6, owns_whole]; try rfl

/-! ## The values -/

/-- Grid point number `n` (modulo the number of points). -/
def pt (n : ℕ) : Fin cfg0.N := ⟨n % 128, lt_of_lt_of_eq (Nat.mod_lt _ (by decide)) N_0.symm⟩

theorem pt_val (t : Fin cfg0.N) : pt t.val = t :=
  Fin.ext (Nat.mod_eq_of_lt (lt_of_lt_of_eq t.isLt N_0))

/-- The block of samples and the block of the mask that point `n` reads. -/
def xAt (c : Dev nD) (n : ℕ) : Vec F S8x512x512 .f32 := iblk m c 0 (pt n)
def mAt (c : Dev nD) (n : ℕ) : Vec F S8x512 .f32 := iblk m c 1 (pt n)

/-- The scratch before point `n`, from contents `S` at launch. -/
def scrAt (c : Dev nD) (S : Scratch F) (n : ℕ) : Scratch F := Scratch.run (xAt m c) (mAt m c) S n

theorem scrAt_succ (c : Dev nD) (S : Scratch F) (t : Fin cfg0.N) :
    scrAt m c S (t.val + 1) = Scratch.step (t.val % 16) (iblk m c 0 t) (iblk m c 1 t) (scrAt m c S t.val) := by
  show Scratch.step _ (iblk m c 0 (pt t.val)) (iblk m c 1 (pt t.val)) _ = _
  rw [pt_val]; rfl

/-- The output block after point `t` (named where it is stored: at the last point of a batch block). -/
def outAt (c : Dev nD) (t : Fin cfg0.N) : Vec F S8x128 .f32 :=
  Scratch.head (iblk m c 2 t) (iblk m c 3 t) (iblk m c 4 t) (iblk m c 5 t) (iblk m c 6 t) (iblk m c 7 t)
    (scrAt m c Scratch.zero (t.val + 1))

/-! ## The pipeline's proof data -/

/-- The invariant before point `n`: the scratch after `n` points from some contents, and the generator register. -/
def inv (c : Dev nD) (n : ℕ) (_ : n ≤ cfg0.N) : sProp 𝕄 :=
  iprop((∃ S, scrOwns c (scrAt m c S n)) ∗ (∃ r, prngReg c r))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem leaves_0 (c : Dev nD) (t : Fin cfg0.N) :
    (dats m 0 c).leavesExact 0 t = owns (c : Thread nD τ) (stg0 t) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (stg1 t) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (stg2 t) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (stg3 t) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (stg4 t) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (stg5 t) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (stg6 t) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (stg7 t) fullShare (iblk m c 7 t) := by
  unfold Dat.leavesExact; rw [show cfg0.idle 7 (grid0.coords t) = false from rfl, after_7]

/-- The output window after the body at point `t`, from contents `d` and scratch `S` at launch. -/
theorem leaves_8 (c : Dev nD) (t : Fin cfg0.N) (d) (S : Scratch F) :
    owns (c : Thread nD τ) (stg8 t) fullShare
      (outStep (t.val % 16) ((dats m 0 c).before 8 t d) (iblk m c 2 t) (iblk m c 3 t) (iblk m c 4 t) (iblk m c 5 t) (iblk m c 6 t) (iblk m c 7 t)
        (scrAt m c S (t.val + 1)))
      ⊢ ((dats m 0 c).leavesExact 8 t : sProp 𝕄) := by
  by_cases h : t.val % 16 = 15
  · rw [show (dats m 0 c).leavesExact 8 t = owns (c : Thread nD τ) (stg8 t) fullShare (outAt m c t) by
      unfold Dat.leavesExact; rw [out_live t h, after_8]]
    rw [show outStep (t.val % 16) _ _ _ _ _ _ _ _ = outAt m c t by
      unfold outStep outAt; rw [if_pos h]
      unfold scrAt; rw [Scratch.run_end (xAt m c) (mAt m c) S Scratch.zero t.val h]]
  · rw [Dat.leavesExact_idle (dats m 0 c) 8 t (out_idle t h) (out_noFlush t h)]
    rw [show outStep (t.val % 16) ((dats m 0 c).before 8 t d) _ _ _ _ _ _ _ = (dats m 0 c).before 8 t d from if_neg h]
    iintro H; iexists _; iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 6400000 in
/-- The body at any point: its triple, at the point's blocks and at the scratch the invariant names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7]
  rw [show (dats m 0 c).owesAt () t.succ = (dats m 0 c).owesAt () t.castSucc from rfl]
  rw [show (dats m 0 c).Φ t.succ = inv m c (t.val + 1) t.isLt from rfl, inv_castSucc]
  unfold inv scrOwns
  iintro ⟨⟨⟨%S, HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) (t.val % 16) (at_point t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    ((dats m 0 c).before 8 t d8) (scrAt m c S t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  rw [← scrAt_succ m c S t]
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · iexists S
      isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves_8 m c t d8 S); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point, at the scratch's launch contents. -/
theorem hin (c : Dev nD) : Pipeline.ΦA spec0 c ⊢ (dats m 0 c).Φ 0 := by
  rw [show (dats m 0 c).Φ 0 = inv m c 0 (Nat.zero_le _) from rfl, launch_scratch]
  unfold inv scrOwns
  iintro ⟨⟨⟨%d0, HS0⟩, ⟨%d1, HS1⟩, ⟨%d2, HS2⟩, ⟨%d3, HS3⟩, ⟨%d4, HS4⟩, ⟨%d5, HS5⟩, ⟨%d6, HS6⟩⟩, Hg⟩
  isplitl [HS0 HS1 HS2 HS3 HS4 HS5 HS6]
  · iexists (⟨d0, d1, d2, d3, d4, d5, d6⟩ : Scratch F)
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iexact Hg

/-- The invariant after the last point gives the scratch back. -/
theorem hout (c : Dev nD) : (dats m 0 c).Φ (Fin.last cfg0.N) ⊢ Pipeline.ΦA spec0 c := by
  rw [show (dats m 0 c).Φ (Fin.last cfg0.N) = inv m c cfg0.N (le_refl _) from rfl, launch_scratch]
  unfold inv scrOwns
  iintro ⟨⟨%S, HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iexact Hg

/-! ## The run -/

-- the implicit arguments of the library's launch theorem are found by unfolding plain definitions
set_option backward.isDefEq.respectTransparency.types false in
/-- Every execution of @main ends, with every array at what the proof data says and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and the counters at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  θ_run_and (frame_of m ρ (dats m) (A_eq m) ((θ_run defs _ _).mono (fun _ h => h.1) (run_main m ρ)))
  ((θ_run defs _ _).mono (fun _ h => h.2) (run_main m ρ))

end Cert.KernelIdeal.Gen

end
-- ==== Proof.Row.lean ====
/- One batch row of the detector in plain mathematics over the extended reals: the four statistics of a masked
   4096 by 512 array, and the two-layer head that turns four numbers into 128. Both programs are read as these
   functions; the one-pass variance, the split sums and the shifted maximum are shown equal to them here. -/
module

public import Idealize.ShloMosaic.Lib.Pointwise

@[expose] public section

noncomputable section

namespace Cert.Row

open Idealize.ShloMosaic

/-! ## The statistics -/

/-- The weight of a time step: 0 where it is padding, 1 elsewhere. -/
def weight (p : BitVec 1) : EReal := if p = 1#1 then 0 else 1

variable (x : Fin 4096 → Fin 512 → EReal) (v : Fin 4096 → EReal) (p : Fin 4096 → BitVec 1)

/-- The divisor of every mean: the number of valid steps and a small constant. -/
def denom : EReal := ∑ T, v T + Ideal.ofBits .f32 0x322BCC77#32

/-- The mean of lane `d` over the valid steps. -/
def pooled (d : Fin 512) : EReal := Ideal.div (∑ T, x T d * v T) (denom v)

/-- The largest variance of a lane. -/
def variance : EReal := Finset.univ.sup fun d : Fin 512 =>
  Ideal.div (∑ T, (x T d - pooled x v d) * (x T d - pooled x v d) * v T) (denom v)

/-- Seven tenths of the largest mean. -/
def threshold : EReal := (Finset.univ.sup fun d : Fin 512 => pooled x v d) * Ideal.ofBits .f32 0x3F333333#32

/-- The largest number of valid samples of a lane above the threshold. -/
def peaks : EReal := Finset.univ.sup fun d : Fin 512 => ∑ T, if threshold x v < x T d then v T else 0

/-- The largest sum of a lane's valid samples over the half of the time axis that starts at step `o`. -/
def half (o : ℕ) : EReal := Finset.univ.sup fun d : Fin 512 =>
  ∑ t : Fin 2048, x (Fin.ofNat 4096 (o + t.val)) d * v (Fin.ofNat 4096 (o + t.val))

/-- The largest sample, padding read as −65000. -/
def strongest : EReal := Finset.univ.sup fun k : Fin 4096 × Fin 512 =>
  if p k.1 = 1#1 then Ideal.ofBits .f32 0xC77DE800#32 else x k.1 k.2

/-- The difference of the two halves, without its sign. -/
def asymmetry : EReal := max (half x v 0 - half x v 2048) (-(half x v 0 - half x v 2048))

/-- The four features. -/
def feat : Fin 4 → EReal :=
  ![strongest x p, variance x fun T => weight (p T), peaks x fun T => weight (p T), asymmetry x fun T => weight (p T)]

theorem feat_zero : feat x p 0 = strongest x p := by
  rw [feat, Matrix.cons_val_zero]

/-! ## The head -/

variable (f : Fin 4 → EReal) (W1 : Fin 4 → Fin 128 → EReal) (b1 g be : Fin 128 → EReal) (W2 : Fin 128 → Fin 128 → EReal) (b2 : Fin 128 → EReal)

/-- The first layer. -/
def hidden (k : Fin 128) : EReal := ∑ i, f i * W1 i k + b1 k

/-- The mean of a row of 128. -/
def mean (h : Fin 128 → EReal) : EReal := Ideal.div (∑ k, h k) (Ideal.ofBits .f32 0x43000000#32)

/-- A row of 128 with its mean taken off, over the root of its variance, scaled and shifted. -/
def normed (h : Fin 128 → EReal) (k : Fin 128) : EReal :=
  Ideal.div (h k - mean h)
    (Ideal.sqrt (mean (fun l => (h l - mean h) * (h l - mean h)) + Ideal.ofBits .f32 0x3727C5AC#32)) * g k + be k

/-- The exact GELU. -/
def gelu (y : EReal) : EReal :=
  Ideal.ofBits .f32 0x3F000000#32 * y * (1 + Ideal.erf (y * Ideal.ofBits .f32 0x3F3504F3#32))

/-- The whole head. -/
def head (q : Fin 128) : EReal := ∑ k, gelu (normed g be (hidden f W1 b1) k) * W2 k q + b2 q

/-! ## Constants -/

theorem ofBits_negInf : Ideal.ofBits .f32 0xFF800000#32 = ⊥ := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_million : Ideal.ofBits .f32 0x49742400#32 = ((1000000 : ℝ) : EReal) := by
  simp [Ideal.ofBits, Ideal.ieee, -EReal.coe_mul]; norm_num

theorem ofBits_low : Ideal.ofBits .f32 0xC77DE800#32 = ((-65000 : ℝ) : EReal) := by
  simp [Ideal.ofBits, Ideal.ieee, -EReal.coe_mul, -EReal.coe_neg]; norm_num

/-- The small constant is a positive real. -/
theorem ofBits_small : ∃ e : ℝ, 0 < e ∧ Ideal.ofBits .f32 0x322BCC77#32 = (e : EReal) := by
  refine ⟨11258999 / 2 ^ 50, by norm_num, ?_⟩
  simp [Ideal.ofBits, Ideal.ieee, -EReal.coe_mul]; norm_num

/-! ## A maximum over a finite set -/

theorem fold_max_eq_sup {ι : Type} (s : Finset ι) (f : ι → EReal) :
    s.fold max (Ideal.ofBits .f32 0xFF800000#32) f = s.sup f := by
  rw [ofBits_negInf]; rfl

/-! ## The one-pass variance -/

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem div_coe_coe (a : ℝ) {b : ℝ} (hb : b ≠ 0) : Ideal.div (a : EReal) (b : EReal) = ((a / b : ℝ) : EReal) := by
  rw [Ideal.div_coe hb, ← EReal.coe_mul]; congr 1; ring

/-- The weighted sum of squared distances from any number `q`, from the three sums. -/
theorem one_pass (X V : Fin 4096 → ℝ) (q : ℝ) :
    ∑ T, X T * V T * X T - 2 * q * ∑ T, X T * V T + q * q * ∑ T, V T = ∑ T, (X T - q) * (X T - q) * V T := by
  rw [Finset.mul_sum, Finset.mul_sum, ← Finset.sum_sub_distrib, ← Finset.sum_add_distrib]
  exact Finset.sum_congr rfl fun T _ => by ring

/-- The same as the programs compute it. -/
theorem variance_one_pass (X : Fin 4096 → ℝ) (V : Fin 4096 → ℝ) (hV : ∀ T, 0 ≤ V T) :
    Ideal.div
      (∑ T, (X T : EReal) * V T * X T
        - Ideal.ofBits .f32 0x40000000#32 * Ideal.div (∑ T, (X T : EReal) * V T) (denom fun T => (V T : EReal)) * ∑ T, (X T : EReal) * V T
        + Ideal.div (∑ T, (X T : EReal) * V T) (denom fun T => (V T : EReal)) * Ideal.div (∑ T, (X T : EReal) * V T) (denom fun T => (V T : EReal))
          * ∑ T, (V T : EReal))
      (denom fun T => (V T : EReal))
    = Ideal.div (∑ T, ((X T : EReal) - Ideal.div (∑ T, (X T : EReal) * V T) (denom fun T => (V T : EReal)))
        * ((X T : EReal) - Ideal.div (∑ T, (X T : EReal) * V T) (denom fun T => (V T : EReal))) * V T) (denom fun T => (V T : EReal)) := by
  obtain ⟨e, he, hb⟩ := ofBits_small
  have hd : (denom fun T => (V T : EReal)) = ((∑ T, V T + e : ℝ) : EReal) := by
    unfold denom; rw [hb, ← coe_sum, ← EReal.coe_add]
  have hd0 : (∑ T, V T + e : ℝ) ≠ 0 := ne_of_gt (add_pos_of_nonneg_of_pos (Finset.sum_nonneg fun T _ => hV T) he)
  simp only [hd, ofBits_two, ← EReal.coe_mul, ← coe_sum, div_coe_coe _ hd0, ← EReal.coe_sub, ← EReal.coe_add]
  rw [one_pass]

/-! ## The maximum by a shift -/

/-- A sample the programs agree on: padding at most 935000, or a finite sample from −65000 up. -/
def InRange (p : BitVec 1) (x : EReal) : Prop :=
  (p = 1#1 → x ≤ ((935000 : ℝ) : EReal)) ∧ (¬ p = 1#1 → ((-65000 : ℝ) : EReal) ≤ x ∧ x < ⊤)

/-- The maximum taken with padding pushed down by a million, from −65000 up, is the maximum with padding at −65000. -/
theorem shifted_max_of {ι κ : Type} [Fintype ι] [Fintype κ] (t0 : ι) (d0 : κ) (x : ι → κ → EReal) (p : ι → BitVec 1)
    (hr : ∀ T d, InRange (p T) (x T d)) :
    max (Ideal.ofBits .f32 0xC77DE800#32)
      (Finset.univ.sup fun k : ι × κ => x k.1 k.2 + (weight (p k.1) - 1) * Ideal.ofBits .f32 0x49742400#32)
    = Finset.univ.sup fun k : ι × κ => if p k.1 = 1#1 then Ideal.ofBits .f32 0xC77DE800#32 else x k.1 k.2 := by
  have hone : ∀ T d, p T = 1#1 → x T d + (weight (p T) - 1) * Ideal.ofBits .f32 0x49742400#32 ≤ ((-65000 : ℝ) : EReal) := by
    intro T d h
    have e : (weight (p T) - 1) * Ideal.ofBits .f32 0x49742400#32 = ((-1000000 : ℝ) : EReal) := by
      rw [weight, if_pos h, ofBits_million, show (0 : EReal) - 1 = ((-1 : ℝ) : EReal) by norm_num, ← EReal.coe_mul]; norm_num
    rw [e]
    refine (add_le_add_left ((hr T d).1 h) _).trans ?_
    rw [← EReal.coe_add]; exact EReal.coe_le_coe_iff.2 (by norm_num)
  have hzero : ∀ T d, ¬ p T = 1#1 → x T d + (weight (p T) - 1) * Ideal.ofBits .f32 0x49742400#32 = x T d := by
    intro T d h
    rw [weight, if_neg h, show (1 : EReal) - 1 = 0 by
      rw [show (1 : EReal) = ((1 : ℝ) : EReal) by norm_cast, ← EReal.coe_sub]; simp, zero_mul, add_zero]
  refine eq_of_forall_ge_iff fun z => ?_
  rw [max_le_iff, Finset.sup_le_iff, Finset.sup_le_iff, ofBits_low]
  constructor
  · rintro ⟨h0, h⟩ k -
    by_cases hk : p k.1 = 1#1
    · rw [if_pos hk]; exact h0
    · rw [if_neg hk, ← hzero k.1 k.2 hk]; exact h k (Finset.mem_univ k)
  · intro h
    have h0 : ((-65000 : ℝ) : EReal) ≤ z := by
      have h1 := h (t0, d0) (Finset.mem_univ _)
      by_cases hk : p t0 = 1#1
      · rwa [if_pos hk] at h1
      · rw [if_neg hk] at h1; exact ((hr t0 d0).2 hk).1.trans h1
    refine ⟨h0, fun k _ => ?_⟩
    by_cases hk : p k.1 = 1#1
    · exact (hone k.1 k.2 hk).trans h0
    · rw [hzero k.1 k.2 hk]; have := h k (Finset.mem_univ k); rwa [if_neg hk] at this

theorem shifted_max (hr : ∀ T d, InRange (p T) (x T d)) :
    max (Ideal.ofBits .f32 0xC77DE800#32)
      (Finset.univ.sup fun k : Fin 4096 × Fin 512 => x k.1 k.2 + (weight (p k.1) - 1) * Ideal.ofBits .f32 0x49742400#32)
    = strongest x p :=
  shifted_max_of 0 0 x p hr

/-- A padded sample drops out of every weighted term; a valid one is real. So a real sample can stand for either. -/
theorem exists_real (b : BitVec 1) (z : EReal) (h : InRange b z) :
    ∃ r : ℝ, z * weight b = r * weight b ∧ z * weight b * z = r * weight b * r
      ∧ ∀ q, (z - q) * (z - q) * weight b = (r - q) * (r - q) * weight b := by
  by_cases hb : b = 1#1
  · exact ⟨0, by simp [weight, hb], by simp [weight, hb], fun q => by simp [weight, hb]⟩
  · obtain ⟨h1, h2⟩ := h.2 hb
    lift z to ℝ using ⟨h2.ne, ((EReal.bot_lt_coe _).trans_le h1).ne'⟩
    exact ⟨z, rfl, rfl, fun _ => rfl⟩

/-- The one-pass variance of a row of samples within the bounds is the two-pass one. -/
theorem variance_real (hr : ∀ T d, InRange (p T) (x T d)) :
    (Finset.univ.sup fun d : Fin 512 => Ideal.div
      (∑ T, x T d * weight (p T) * x T d
        - Ideal.ofBits .f32 0x40000000#32 * Ideal.div (∑ T, x T d * weight (p T)) (∑ T, weight (p T) + Ideal.ofBits .f32 0x322BCC77#32)
          * ∑ T, x T d * weight (p T)
        + Ideal.div (∑ T, x T d * weight (p T)) (∑ T, weight (p T) + Ideal.ofBits .f32 0x322BCC77#32)
          * Ideal.div (∑ T, x T d * weight (p T)) (∑ T, weight (p T) + Ideal.ofBits .f32 0x322BCC77#32) * ∑ T, weight (p T))
      (∑ T, weight (p T) + Ideal.ofBits .f32 0x322BCC77#32))
    = variance x fun T => weight (p T) := by
  refine Finset.sup_congr rfl fun d _ => ?_
  choose X h1 h2 h3 using fun T => exists_real (p T) (x T d) (hr T d)
  have hw : ∀ T, ((if p T = 1#1 then 0 else 1 : ℝ) : EReal) = weight (p T) := fun T => by
    unfold weight; split_ifs <;> simp
  have H := variance_one_pass X (fun T => if p T = 1#1 then 0 else 1) fun T => by
    show (0 : ℝ) ≤ if p T = 1#1 then 0 else 1
    split_ifs <;> norm_num
  simp only [hw] at H
  unfold pooled denom
  unfold denom at H
  simp only [h2, h3]
  simp only [h1]
  exact H

end Cert.Row

end
-- ==== Proof.InRange.lean ====
/- The precondition read back: every sample is in range for its padding bit. -/
module

public import proofs.«01_k».proof.Pre_in_range
public import proofs.«01_k».proof.Proof.Row
public import Idealize.ShloMosaic.Lib.ReduceAll

@[expose] public section

noncomputable section

namespace Cert.Pre_in_range

open Idealize.ShloMosaic Idealize.ShloMosaic.Pointwise

theorem ofBits_high : Ideal.ofBits .f32 0x49644580#32 = ((935000 : ℝ) : EReal) := by
  simp [Ideal.ofBits, Ideal.ieee, -EReal.coe_mul]; norm_num

theorem ofBits_posInf : Ideal.ofBits .f32 0x7F800000#32 = ⊤ := by
  simp [Ideal.ofBits, Ideal.ieee]

instance : Subsingleton S_.Idx := ⟨fun _ _ => funext fun a => a.elim0⟩

theorem of_decide {P : Prop} [Decidable P] (h : BitVec.ofBool (decide P) = 1#1) : P := by
  by_contra hP
  rw [decide_eq_false hP] at h
  exact absurd h (by decide)

variable [Facts]

theorem bounds (x : FVec Ideal S64x4096x512 .f32) (p : IVec S64x4096 1) (W1 : FVec Ideal S4x128 .f32) (b1 g be : FVec Ideal S128 .f32)
    (W2 : FVec Ideal S128x128 .f32) (b2 : FVec Ideal S128 .f32) (h : fn (F := Ideal) x p W1 b1 g be W2 b2 = fun _ => 1#1)
    (B : Fin 64) (T : Fin 4096) (d : Fin 512) : Row.InRange (p (ix2 B T)) (x (ix3 B T d)) := by
  have e := Host.reduce_andi_all _ _ _ _ ix0 (congrFun h ix0) (ix3 B T d)
  have e' : Scalar.select (p (ix2 B T)) (FloatOps.cmpf .ole (x (ix3 B T d)) (Ideal.ofBits .f32 0x49644580#32))
      (IntOp.andi (FloatOps.cmpf .oge (x (ix3 B T d)) (Ideal.ofBits .f32 0xC77DE800#32))
        (FloatOps.cmpf .olt (x (ix3 B T d)) (Ideal.ofBits .f32 0x7F800000#32))) = 1#1 := by
    rw [← e]
    pointwise [fn_where]
  unfold Scalar.select at e'
  rw [Row.InRange, ← Row.ofBits_low, ← ofBits_high, ← ofBits_posInf]
  refine ⟨fun hp => ?_, fun hp => ?_⟩
  · rw [if_pos (show p (ix2 B T) = 1 from hp)] at e'
    exact of_decide e'
  · rw [if_neg (show ¬ p (ix2 B T) = 1 from hp)] at e'
    obtain ⟨h1, h2⟩ := IntOp.andi_eq_one.1 e'
    exact ⟨of_decide h1, of_decide h2⟩

end Cert.Pre_in_range

end
-- ==== Proof.KernelIdeal.Blocks.lean ====
/- What each input window's block holds at a grid point, entry by entry, and the whole output array after the launch:
   output row `8·bi + b` is row `b` of the block stored at the last point of batch block `bi`. -/
module

public import proofs.«01_k».proof.Proof.KernelIdeal.Launch
public import Idealize.ShloMosaic.Lib.Pointwise
public import Idealize.ShloMosaic.Lib.Pipeline.Value
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pointwise

variable (m : (ℓ : Loc nD τ sig) → Buf (Elt F) ℓ) (ρ : Dev nD → PrngReg)

/-- Where the blocks of the two large windows start, at every grid point. -/
theorem index_x : ∀ t : Fin cfg0.N, win0_0.index t 0 = t.val / 16 ∧ win0_0.index t 1 = t.val % 8 ∧ win0_0.index t 2 = 0 := by
  decide +kernel
theorem index_m : ∀ t : Fin cfg0.N, win0_1.index t 0 = t.val / 16 ∧ win0_1.index t 1 = t.val % 8 := by
  decide +kernel

theorem iblk_x (c : Dev nD) (t : Fin cfg0.N) (b : Fin 8) (s d : Fin 512)
    (B : Fin 64) (hB : B.val = 8 * (t.val / 16) + b.val) (T : Fin 4096) (hT : T.val = 512 * (t.val % 8) + s.val) :
    (iblk m c 0 t : Vec F S8x512x512 .f32) (ix3 b s d) = (m ((c : Thread nD τ).loc main_arg0) : Vec F S64x4096x512 .f32) (ix3 B T d) := by
  obtain ⟨h0, h1, h2⟩ := index_x t
  unfold iblk
  rw [View.read_apply]
  show V m c main_arg0 _ = m (c.tc.loc main_arg0) _
  entry_read
  congr 1
  funext a
  apply Fin.ext
  match a with
  | ⟨0, _⟩ => show win0_0.index t 0 * 8 + 1 * b.val = B.val; rw [h0]; omega
  | ⟨1, _⟩ => show win0_0.index t 1 * 512 + 1 * s.val = T.val; rw [h1]; omega
  | ⟨2, _⟩ => show win0_0.index t 2 * 512 + 1 * d.val = d.val; rw [h2]; omega

theorem iblk_m (c : Dev nD) (t : Fin cfg0.N) (b : Fin 8) (s : Fin 512)
    (B : Fin 64) (hB : B.val = 8 * (t.val / 16) + b.val) (T : Fin 4096) (hT : T.val = 512 * (t.val % 8) + s.val) :
    (iblk m c 1 t : Vec F S8x512 .f32) (ix2 b s)
      = FloatOps.uitofp .f32 ((m ((c : Thread nD τ).loc main_arg1) : IVec S64x4096 1) (ix2 B T)) := by
  obtain ⟨h0, h1⟩ := index_m t
  unfold iblk
  rw [View.read_apply]
  show V m c main_v0 _ = _
  entry_read
  show FloatOps.uitofp .f32 ((m ((c : Thread nD τ).loc main_arg1) : IVec S64x4096 1) _) = _
  congr 2
  funext a
  apply Fin.ext
  match a with
  | ⟨0, _⟩ => show win0_1.index t 0 * 8 + 1 * b.val = B.val; rw [h0]; omega
  | ⟨1, _⟩ => show win0_1.index t 1 * 512 + 1 * s.val = T.val; rw [h1]; omega

/-! The small windows: each block is its whole array. -/

theorem index_2 : ∀ t : Fin cfg0.N, win0_2.index t 0 = 0 ∧ win0_2.index t 1 = 0 := by decide +kernel

theorem iblk_W1 (c : Dev nD) (t : Fin cfg0.N) (i : Fin 4) (j : Fin 128) :
    (iblk m c 2 t : Vec F S4x128 .f32) (ix2 i j) = (m ((c : Thread nD τ).loc main_arg2) : Vec F S4x128 .f32) (ix2 i j) := by
  obtain ⟨h0, h1⟩ := index_2 t
  unfold iblk
  rw [View.read_apply]
  show V m c main_arg2 _ = m (c.tc.loc main_arg2) _
  entry_read
  congr 1
  funext a
  apply Fin.ext
  match a with
  | ⟨0, _⟩ => show win0_2.index t 0 * 4 + 1 * i.val = i.val; rw [h0]; omega
  | ⟨1, _⟩ => show win0_2.index t 1 * 128 + 1 * j.val = j.val; rw [h1]; omega

theorem index_3 : ∀ t : Fin cfg0.N, win0_3.index t 0 = 0 ∧ win0_3.index t 1 = 0 := by decide +kernel

theorem iblk_b1 (c : Dev nD) (t : Fin cfg0.N) (j : Fin 128) :
    (iblk m c 3 t : Vec F S1x128 .f32) (ix2 0 j) = (m ((c : Thread nD τ).loc main_arg3) : Vec F S128 .f32) (ix1 j) := by
  obtain ⟨h0, h1⟩ := index_3 t
  unfold iblk
  rw [View.read_apply]
  show V m c main_v1 _ = _
  entry_read
  refine Eq.trans (congrArg (shapeCast S1x128 (m ((c : Thread nD τ).loc main_arg3) : Vec F S128 .f32) shapeCasts_S128_S1x128) (?_ : _ = ix2 0 j)) ?_
  · funext a
    apply Fin.ext
    match a with
    | ⟨0, _⟩ => show win0_3.index t 0 * 1 + 1 * 0 = 0; rw [h0]
    | ⟨1, _⟩ => show win0_3.index t 1 * 128 + 1 * j.val = j.val; rw [h1]; omega
  · pointwise

theorem index_4 : ∀ t : Fin cfg0.N, win0_4.index t 0 = 0 ∧ win0_4.index t 1 = 0 := by decide +kernel

theorem iblk_g (c : Dev nD) (t : Fin cfg0.N) (j : Fin 128) :
    (iblk m c 4 t : Vec F S1x128 .f32) (ix2 0 j) = (m ((c : Thread nD τ).loc main_arg4) : Vec F S128 .f32) (ix1 j) := by
  obtain ⟨h0, h1⟩ := index_4 t
  unfold iblk
  rw [View.read_apply]
  show V m c main_v2 _ = _
  entry_read
  refine Eq.trans (congrArg (shapeCast S1x128 (m ((c : Thread nD τ).loc main_arg4) : Vec F S128 .f32) shapeCasts_S128_S1x128) (?_ : _ = ix2 0 j)) ?_
  · funext a
    apply Fin.ext
    match a with
    | ⟨0, _⟩ => show win0_4.index t 0 * 1 + 1 * 0 = 0; rw [h0]
    | ⟨1, _⟩ => show win0_4.index t 1 * 128 + 1 * j.val = j.val; rw [h1]; omega
  · pointwise

theorem index_5 : ∀ t : Fin cfg0.N, win0_5.index t 0 = 0 ∧ win0_5.index t 1 = 0 := by decide +kernel

theorem iblk_be (c : Dev nD) (t : Fin cfg0.N) (j : Fin 128) :
    (iblk m c 5 t : Vec F S1x128 .f32) (ix2 0 j) = (m ((c : Thread nD τ).loc main_arg5) : Vec F S128 .f32) (ix1 j) := by
  obtain ⟨h0, h1⟩ := index_5 t
  unfold iblk
  rw [View.read_apply]
  show V m c main_v3 _ = _
  entry_read
  refine Eq.trans (congrArg (shapeCast S1x128 (m ((c : Thread nD τ).loc main_arg5) : Vec F S128 .f32) shapeCasts_S128_S1x128) (?_ : _ = ix2 0 j)) ?_
  · funext a
    apply Fin.ext
    match a with
    | ⟨0, _⟩ => show win0_5.index t 0 * 1 + 1 * 0 = 0; rw [h0]
    | ⟨1, _⟩ => show win0_5.index t 1 * 128 + 1 * j.val = j.val; rw [h1]; omega
  · pointwise

theorem index_6 : ∀ t : Fin cfg0.N, win0_6.index t 0 = 0 ∧ win0_6.index t 1 = 0 := by decide +kernel

theorem iblk_W2 (c : Dev nD) (t : Fin cfg0.N) (i : Fin 128) (j : Fin 128) :
    (iblk m c 6 t : Vec F S128x128 .f32) (ix2 i j) = (m ((c : Thread nD τ).loc main_arg6) : Vec F S128x128 .f32) (ix2 i j) := by
  obtain ⟨h0, h1⟩ := index_6 t
  unfold iblk
  rw [View.read_apply]
  show V m c main_arg6 _ = m (c.tc.loc main_arg6) _
  entry_read
  congr 1
  funext a
  apply Fin.ext
  match a with
  | ⟨0, _⟩ => show win0_6.index t 0 * 128 + 1 * i.val = i.val; rw [h0]; omega
  | ⟨1, _⟩ => show win0_6.index t 1 * 128 + 1 * j.val = j.val; rw [h1]; omega

theorem index_7 : ∀ t : Fin cfg0.N, win0_7.index t 0 = 0 ∧ win0_7.index t 1 = 0 := by decide +kernel

theorem iblk_b2 (c : Dev nD) (t : Fin cfg0.N) (j : Fin 128) :
    (iblk m c 7 t : Vec F S1x128 .f32) (ix2 0 j) = (m ((c : Thread nD τ).loc main_arg7) : Vec F S128 .f32) (ix1 j) := by
  obtain ⟨h0, h1⟩ := index_7 t
  unfold iblk
  rw [View.read_apply]
  show V m c main_v4 _ = _
  entry_read
  refine Eq.trans (congrArg (shapeCast S1x128 (m ((c : Thread nD τ).loc main_arg7) : Vec F S128 .f32) shapeCasts_S128_S1x128) (?_ : _ = ix2 0 j)) ?_
  · funext a
    apply Fin.ext
    match a with
    | ⟨0, _⟩ => show win0_7.index t 0 * 1 + 1 * 0 = 0; rw [h0]
    | ⟨1, _⟩ => show win0_7.index t 1 * 128 + 1 * j.val = j.val; rw [h1]; omega
  · pointwise

/-! The output. -/

/-- The last point of batch block `bi`. -/
def lastPt (bi : ℕ) (h : bi < 8) : Fin cfg0.N := ⟨16 * bi + 15, lt_of_lt_of_eq (by omega : 16 * bi + 15 < 128) N_0.symm⟩

/-- The whole output array: each row of eight from its batch block's stored block. -/
def result (c : Dev nD) : Buf (Elt F) ((c : Thread nD τ).loc main_v5) := fun i : S64x128.Idx =>
  outAt m c (lastPt ((i 0).val / 8) (by have : (i 0).val < 64 := (i 0).isLt; omega)) (ix2 ⟨(i 0).val % 8, Nat.mod_lt _ (by decide)⟩ (i 1))

theorem index_8 : ∀ t : Fin cfg0.N, win0_8.index t 0 = t.val / 16 ∧ win0_8.index t 1 = 0 := by decide +kernel

theorem result_at (c : Dev nD) (i : S64x128.Idx) (t : Fin cfg0.N) (h15 : t.val % 16 = 15) (j : S8x128.Idx)
    (e0 : (i 0).val = 8 * (t.val / 16) + (j 0).val) (e1 : (i 1).val = (j 1).val) : result m c i = outAt m c t j := by
  have hj : (j 0).val < 8 := (j 0).isLt
  have ht : t = lastPt ((i 0).val / 8) (by have : (i 0).val < 64 := (i 0).isLt; omega) := Fin.ext (show t.val = 16 * _ + 15 by omega)
  have hi : j = ix2 ⟨(i 0).val % 8, Nat.mod_lt _ (by decide)⟩ (i 1) := by
    funext a
    apply Fin.ext
    match a with
    | ⟨0, _⟩ => show (j 0).val = (i 0).val % 8; omega
    | ⟨1, _⟩ => exact e1.symm
  rw [hi, ht]; rfl

theorem flushed_eq (c : Dev nD) (t : Fin cfg0.N) (hf : (cfg0.win 8).flush t = true) :
    (dats m 0 c).flushed 8 t = ((cfg0.win 8).blk t).view.read (Elt F) (result m c) := by
  obtain ⟨h0, h1⟩ := index_8 t
  have h15 := (flush0_8 t).mp hf
  show (cfg0.win 8).cut (grid0.coords t) ((dats m 0 c).after 8 t) = _
  rw [after_8]
  funext j
  rw [View.read_apply]
  refine (result_at m c _ t h15 j ?_ ?_).symm
  · show win0_8.index t 0 * 8 + 1 * (j 0).val = _; rw [h0]; omega
  · show win0_8.index t 1 * 128 + 1 * (j 1).val = _; rw [h1]; omega

/-- The output array after the launch. -/
theorem final_8 (c : Dev nD) : (dats m 0 c).arrAt 8 cfg0.N = result m c :=
  (dats m 0 c).arrAt_eq_of_cover 8 (result m c) (flushed_eq m c) fun i => by
    have hi0 : (i 0 : Nat) < 64 := (i 0).isLt
    have hi1 : (i 1 : Nat) < 128 := (i 1).isLt
    obtain ⟨t, ht⟩ : ∃ t : Fin cfg0.N, t.val = 16 * ((i 0 : Nat) / 8) + 15 := ⟨lastPt ((i 0 : Nat) / 8) (by omega), rfl⟩
    refine ⟨t, (flush0_8 t).mpr (by omega), ?_⟩
    obtain ⟨h0, h1⟩ := index_8 t
    show i ∈ ((View.whole main_v5).slice (win0_8.rect t)).set
    rw [View.set_slice_whole, Rect.mem_set_unit]
    intro a
    match a with
    | ⟨0, _⟩ =>
      show win0_8.index t 0 * 8 ≤ (i 0 : Nat) ∧ (i 0 : Nat) < win0_8.index t 0 * 8 + 8
      rw [h0]; omega
    | ⟨1, _⟩ =>
      show win0_8.index t 1 * 128 ≤ (i 1 : Nat) ∧ (i 1 : Nat) < win0_8.index t 1 * 128 + 128
      rw [h1]; omega

/-- The run, read: the result array at `result`, the arguments unchanged. -/
theorem run_result : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 8).trans (final_8 m c), h.2.1 c⟩) (θ_run_and
    ((θ_run defs _ _).mono (fun _ h => h.1) (run_main m ρ)) (frame m ρ))

end Cert.KernelIdeal.Gen

end
-- ==== Proof.KernelIdeal.Accumulate.lean ====
/- The scratch contents of one row at the end of a batch block, as sums and maxima over the whole time axis: each grid
   point adds one tile of 512 time steps, so after `k` tiles an accumulator holds its sum over the first `512·k` steps. -/
module

public import proofs.«01_k».proof.Proof.KernelIdeal.Step
public import proofs.«01_k».proof.Proof.Row

@[expose] public section

noncomputable section

namespace Cert.KernelIdeal.Gen

open Idealize.ShloMosaic Idealize.ShloMosaic.Pointwise

/-! ## A tile of 512 time steps -/

theorem tile_sum (k : ℕ) (h : ℕ → EReal) : ∑ s : Fin 512, h (512 * k + s.val) = ∑ T ∈ Finset.Ico (512 * k) (512 * (k + 1)), h T := by
  rw [Finset.sum_Ico_eq_sum_range, show 512 * (k + 1) - 512 * k = 512 by omega, Finset.sum_range]

theorem add_tile (a k : ℕ) (ha : a ≤ 512 * k) (h : ℕ → EReal) :
    ∑ T ∈ Finset.Ico a (512 * k), h T + ∑ s : Fin 512, h (512 * k + s.val) = ∑ T ∈ Finset.Ico a (512 * (k + 1)), h T := by
  rw [tile_sum, Finset.sum_Ico_consecutive _ ha (by omega)]

theorem tile_sup (k : ℕ) (h : ℕ → Fin 512 → EReal) :
    (Finset.univ.sup fun q : Fin 512 × Fin 512 => h (512 * k + q.1.val) q.2)
      = (Finset.Ico (512 * k) (512 * (k + 1))).sup fun T => Finset.univ.sup fun d => h T d := by
  refine eq_of_forall_ge_iff fun z => ?_
  simp only [Finset.sup_le_iff, Finset.mem_univ, true_imp_iff, Finset.mem_Ico]
  constructor
  · intro H T hT d
    have := H (⟨T - 512 * k, by omega⟩, d)
    rwa [show 512 * k + (T - 512 * k) = T by omega] at this
  · rintro H ⟨s, d⟩
    exact H _ (by have := s.isLt; dsimp only; omega) d

theorem max_tile (k : ℕ) (z : EReal) (h : ℕ → Fin 512 → EReal) :
    max (max z ((Finset.Ico 0 (512 * k)).sup fun T => Finset.univ.sup fun d => h T d))
      (Finset.univ.sup fun q : Fin 512 × Fin 512 => h (512 * k + q.1.val) q.2)
    = max z ((Finset.Ico 0 (512 * (k + 1))).sup fun T => Finset.univ.sup fun d => h T d) := by
  rw [tile_sup, ← Finset.Ico_union_Ico_eq_Ico (Nat.zero_le (512 * k)) (show 512 * k ≤ 512 * (k + 1) by omega), Finset.sup_union, max_assoc]

/-! ## One grid point, at an entry -/

section Point

variable (x : Vec Ideal S8x512x512 .f32) (mk v s w : Vec Ideal S8x512 .f32) (a : Vec Ideal S8x1 .f32) (b : Fin 8) (d : Fin 512)

theorem pay14_apply : k0_pay14 x (k0_pay1 mk) s (ix2 b d) = s (ix2 b d) + ∑ t : Fin 512, x (ix3 b t d) * (1 - mk (ix2 b t)) := by
  pointwise [k0_pay14, k0_pay13, k0_pay12, k0_pay1]

theorem pay15_apply : k0_pay15 x (k0_pay1 mk) s (ix2 b d) = s (ix2 b d) + ∑ t : Fin 512, x (ix3 b t d) * (1 - mk (ix2 b t)) := by
  pointwise [k0_pay15, k0_pay13, k0_pay12, k0_pay1]

theorem pay16_apply : k0_pay16 x (k0_pay1 mk) s (ix2 b d)
    = s (ix2 b d) + ∑ t : Fin 512, x (ix3 b t d) * (1 - mk (ix2 b t)) * x (ix3 b t d) := by
  pointwise [k0_pay16, k0_pay12, k0_pay1]

theorem pay17_apply : k0_pay17 (k0_pay1 mk) a (ix2 b 0) = a (ix2 b 0) + ∑ t : Fin 512, (1 - mk (ix2 b t)) := by
  pointwise [k0_pay17, k0_pay1]

theorem pay2_apply : k0_pay2 (k0_pay18 x (k0_pay1 mk)) a (ix2 b 0)
    = max (a (ix2 b 0)) (Finset.univ.sup fun q : Fin 512 × Fin 512 =>
        x (ix3 b q.1 q.2) + ((1 - mk (ix2 b q.1)) - 1) * Ideal.ofBits .f32 0x49742400#32) := by
  rw [← Row.fold_max_eq_sup]
  pointwise [k0_pay2, k0_pay18, k0_pay1]

theorem pay4_apply : k0_pay4 a v s (ix2 b 0)
    = (Finset.univ.sup fun d : Fin 512 => Ideal.div (v (ix2 b d) + s (ix2 b d)) (a (ix2 b 0) + Ideal.ofBits .f32 0x322BCC77#32))
      * Ideal.ofBits .f32 0x3F333333#32 := by
  rw [← Row.fold_max_eq_sup]
  pointwise [k0_pay4]

theorem pay5_apply : k0_pay5 x mk a s (ix2 b d)
    = s (ix2 b d) + ∑ t : Fin 512, if a (ix2 b 0) < x (ix3 b t d) then 1 - mk (ix2 b t) else 0 := by
  pointwise [k0_pay5, k0_pay1]

theorem pay3_apply : k0_pay3 (F := Ideal) (ix2 b d) = 0 := by pointwise [k0_pay3]
theorem pay7_apply : k0_pay7 (F := Ideal) (ix2 b d) = 0 := by pointwise [k0_pay7]
theorem pay8_apply : k0_pay8 (F := Ideal) (ix2 b d) = 0 := by pointwise [k0_pay8]
theorem pay9_apply : k0_pay9 (F := Ideal) (ix2 b d) = 0 := by pointwise [k0_pay9]
theorem pay10_apply : k0_pay10 (F := Ideal) (ix2 b 0) = 0 := by pointwise [k0_pay10]
theorem pay11_apply : k0_pay11 (F := Ideal) (ix2 b 0) = Ideal.ofBits .f32 0xC77DE800#32 := by pointwise [k0_pay11]

end Point

/-! ## One row of the scratch -/

/-- The entries of row `b` of the accumulators after `k` tiles of samples `xr` and weights `wr`. -/
structure Acc (S : Scratch Ideal) (b : Fin 8) (xr : ℕ → Fin 512 → EReal) (wr : ℕ → EReal) (k : ℕ) : Prop where
  s1e : ∀ d, S.s1e (ix2 b d) = ∑ T ∈ Finset.Ico 0 (512 * min k 4), xr T d * wr T
  s1l : ∀ d, S.s1l (ix2 b d) = ∑ T ∈ Finset.Ico 2048 (512 * k), xr T d * wr T
  s2 : ∀ d, S.s2 (ix2 b d) = ∑ T ∈ Finset.Ico 0 (512 * k), xr T d * wr T * xr T d
  cnt : S.cnt (ix2 b 0) = ∑ T ∈ Finset.Ico 0 (512 * k), wr T
  mx : S.mx (ix2 b 0) = max (Ideal.ofBits .f32 0xC77DE800#32) ((Finset.Ico 0 (512 * k)).sup fun T => Finset.univ.sup fun d =>
    xr T d + (wr T - 1) * Ideal.ofBits .f32 0x49742400#32)

variable {b : Fin 8} {xr : ℕ → Fin 512 → EReal} {wr : ℕ → EReal}

theorem acc_init (S : Scratch Ideal) : Acc (Scratch.initAcc S) b xr wr 0 where
  s1e d := (pay7_apply b d).trans (by simp)
  s1l d := (pay8_apply b d).trans (by simp)
  s2 d := (pay9_apply b d).trans (by simp)
  cnt := (pay10_apply b).trans (by simp)
  mx := (pay11_apply b).trans (by simp)

variable {k : ℕ} {x : Vec Ideal S8x512x512 .f32} {mk : Vec Ideal S8x512 .f32} {S : Scratch Ideal}

theorem acc_early (hk : k < 4) (hx : ∀ s d, x (ix3 b s d) = xr (512 * k + s.val) d) (hm : ∀ s, 1 - mk (ix2 b s) = wr (512 * k + s.val))
    (h : Acc S b xr wr k) : Acc (Scratch.addEarly x mk S) b xr wr (k + 1) where
  s1e d := by
    refine (pay14_apply x mk S.s1e b d).trans ?_
    rw [h.s1e, show min k 4 = k by omega, show min (k + 1) 4 = k + 1 by omega, ← add_tile 0 k (Nat.zero_le _)]
    simp only [hx, hm]
  s1l d := by
    rw [show (Scratch.addEarly x mk S).s1l = S.s1l from rfl, h.s1l, Finset.Ico_eq_empty (by omega), Finset.Ico_eq_empty (by omega)]
  s2 d := by
    refine (pay16_apply x mk S.s2 b d).trans ?_
    rw [h.s2, ← add_tile 0 k (Nat.zero_le _)]
    simp only [hx, hm]
  cnt := by
    refine (pay17_apply mk S.cnt b).trans ?_
    rw [h.cnt, ← add_tile 0 k (Nat.zero_le _)]
    simp only [hm]
  mx := by
    refine (pay2_apply x mk S.mx b).trans ?_
    rw [h.mx, ← max_tile k]
    simp only [hx, hm]

theorem acc_late (hk : 4 ≤ k) (hx : ∀ s d, x (ix3 b s d) = xr (512 * k + s.val) d) (hm : ∀ s, 1 - mk (ix2 b s) = wr (512 * k + s.val))
    (h : Acc S b xr wr k) : Acc (Scratch.addLate x mk S) b xr wr (k + 1) where
  s1e d := by
    rw [show (Scratch.addLate x mk S).s1e = S.s1e from rfl, h.s1e, show min k 4 = 4 by omega, show min (k + 1) 4 = 4 by omega]
  s1l d := by
    refine (pay15_apply x mk S.s1l b d).trans ?_
    rw [h.s1l, ← add_tile 2048 k (by omega)]
    simp only [hx, hm]
  s2 d := by
    refine (pay16_apply x mk S.s2 b d).trans ?_
    rw [h.s2, ← add_tile 0 k (Nat.zero_le _)]
    simp only [hx, hm]
  cnt := by
    refine (pay17_apply mk S.cnt b).trans ?_
    rw [h.cnt, ← add_tile 0 k (Nat.zero_le _)]
    simp only [hm]
  mx := by
    refine (pay2_apply x mk S.mx b).trans ?_
    rw [h.mx, ← max_tile k]
    simp only [hx, hm]

/-- The threshold and the peak counts of row `b` after `k` tiles of the second pass. -/
structure Peaks (S : Scratch Ideal) (b : Fin 8) (xr : ℕ → Fin 512 → EReal) (wr : ℕ → EReal) (k : ℕ) : Prop where
  acc : Acc S b xr wr 8
  thr : S.thr (ix2 b 0) = (Finset.univ.sup fun d : Fin 512 =>
    Ideal.div (S.s1e (ix2 b d) + S.s1l (ix2 b d)) (S.cnt (ix2 b 0) + Ideal.ofBits .f32 0x322BCC77#32)) * Ideal.ofBits .f32 0x3F333333#32
  pk : ∀ d, S.pk (ix2 b d) = ∑ T ∈ Finset.Ico 0 (512 * k), if S.thr (ix2 b 0) < xr T d then wr T else 0

theorem peaks_init (h : Acc S b xr wr 8) : Peaks (Scratch.initPk S) b xr wr 0 where
  acc := ⟨h.s1e, h.s1l, h.s2, h.cnt, h.mx⟩
  thr := pay4_apply S.s1e S.s1l S.cnt b
  pk d := (pay3_apply b d).trans (by simp)

theorem peaks_add (hx : ∀ s d, x (ix3 b s d) = xr (512 * k + s.val) d) (hm : ∀ s, 1 - mk (ix2 b s) = wr (512 * k + s.val))
    (h : Peaks S b xr wr k) : Peaks (Scratch.addPk x mk S) b xr wr (k + 1) where
  acc := ⟨h.acc.s1e, h.acc.s1l, h.acc.s2, h.acc.cnt, h.acc.mx⟩
  thr := h.thr
  pk d := by
    refine (pay5_apply x mk S.pk S.thr b d).trans ?_
    rw [h.pk, ← add_tile 0 k (Nat.zero_le _)]
    simp only [hx, hm]
    rfl

/-! ## The sixteen points of a batch block -/

variable {X : ℕ → Vec Ideal S8x512x512 .f32} {M : ℕ → Vec Ideal S8x512 .f32} {n : ℕ}

theorem acc_run (hn : n % 16 = 0) (hX : ∀ k < 16, ∀ s d, X (n + k) (ix3 b s d) = xr (512 * (k % 8) + s.val) d)
    (hM : ∀ k < 16, ∀ s, 1 - M (n + k) (ix2 b s) = wr (512 * (k % 8) + s.val)) (k : ℕ) (hk : k < 8) :
    Acc (Scratch.run X M S (n + (k + 1))) b xr wr (k + 1) := by
  induction k with
  | zero =>
    show Acc (Scratch.step ((n + 0) % 16) (X (n + 0)) (M (n + 0)) _) _ _ _ _
    rw [show (n + 0) % 16 = 0 by omega]
    exact acc_early (by decide) (hX 0 (by decide)) (hM 0 (by decide)) (acc_init _)
  | succ k ih =>
    show Acc (Scratch.step ((n + (k + 1)) % 16) (X (n + (k + 1))) (M (n + (k + 1))) (Scratch.run X M S (n + (k + 1)))) _ _ _ _
    have hx := hX (k + 1) (by omega)
    have hm := hM (k + 1) (by omega)
    rw [show (k + 1) % 8 = k + 1 by omega] at hx hm
    rw [show (n + (k + 1)) % 16 = k + 1 by omega]
    unfold Scratch.step
    rw [if_neg (by omega)]
    by_cases h4 : k + 1 < 4
    · rw [if_pos h4]; exact acc_early h4 hx hm (ih (by omega))
    · rw [if_neg h4, if_pos hk]; exact acc_late (by omega) hx hm (ih (by omega))

theorem peaks_run (hn : n % 16 = 0) (hX : ∀ k < 16, ∀ s d, X (n + k) (ix3 b s d) = xr (512 * (k % 8) + s.val) d)
    (hM : ∀ k < 16, ∀ s, 1 - M (n + k) (ix2 b s) = wr (512 * (k % 8) + s.val)) (k : ℕ) (hk : k < 8) :
    Peaks (Scratch.run X M S (n + (8 + k + 1))) b xr wr (k + 1) := by
  induction k with
  | zero =>
    show Peaks (Scratch.step ((n + 8) % 16) (X (n + 8)) (M (n + 8)) (Scratch.run X M S (n + (7 + 1)))) _ _ _ _
    rw [show (n + 8) % 16 = 8 by omega]
    exact peaks_add (hX 8 (by decide)) (hM 8 (by decide)) (peaks_init (acc_run hn hX hM 7 (by decide)))
  | succ k ih =>
    show Peaks (Scratch.step ((n + (8 + (k + 1))) % 16) (X (n + (8 + (k + 1)))) (M (n + (8 + (k + 1)))) (Scratch.run X M S (n + (8 + k + 1)))) _ _ _ _
    have hx := hX (8 + (k + 1)) (by omega)
    have hm := hM (8 + (k + 1)) (by omega)
    rw [show (8 + (k + 1)) % 8 = k + 1 by omega] at hx hm
    rw [show (n + (8 + (k + 1))) % 16 = 8 + (k + 1) by omega]
    unfold Scratch.step
    rw [if_neg (by omega), if_neg (by omega), if_neg (by omega), if_neg (by omega)]
    exact peaks_add hx hm (ih (by omega))

end Cert.KernelIdeal.Gen

end
-- ==== Proof.KernelIdeal.Features.lean ====
/- One row of the kernel's output block: the four features read off the scratch, and the head applied to them. -/
module

public import proofs.«01_k».proof.Proof.KernelIdeal.Accumulate

@[expose] public section

noncomputable section

namespace Cert.KernelIdeal.Gen

open Idealize.ShloMosaic Idealize.ShloMosaic.Pointwise

/-! ## The payloads of the last grid point, at an entry -/

section Point

variable (cnt mx : Vec Ideal S8x1 .f32) (s1e s1l s2 pk : Vec Ideal S8x512 .f32) (b : Fin 8)

theorem pay19_col0 : k0_pay19 cnt s1e s1l mx s2 cnt pk s1e s1l (ix2 b 0) = mx (ix2 b 0) := by
  pointwise [k0_pay19]

theorem pay19_col1 : k0_pay19 cnt s1e s1l mx s2 cnt pk s1e s1l (ix2 b 1)
    = Finset.univ.sup fun d : Fin 512 =>
      Ideal.div
        (s2 (ix2 b d)
          - Ideal.ofBits .f32 0x40000000#32 * Ideal.div (s1e (ix2 b d) + s1l (ix2 b d)) (cnt (ix2 b 0) + Ideal.ofBits .f32 0x322BCC77#32)
            * (s1e (ix2 b d) + s1l (ix2 b d))
          + Ideal.div (s1e (ix2 b d) + s1l (ix2 b d)) (cnt (ix2 b 0) + Ideal.ofBits .f32 0x322BCC77#32)
            * Ideal.div (s1e (ix2 b d) + s1l (ix2 b d)) (cnt (ix2 b 0) + Ideal.ofBits .f32 0x322BCC77#32) * cnt (ix2 b 0))
        (cnt (ix2 b 0) + Ideal.ofBits .f32 0x322BCC77#32) := by
  rw [← Row.fold_max_eq_sup]
  pointwise [k0_pay19]

theorem pay19_col2 : k0_pay19 cnt s1e s1l mx s2 cnt pk s1e s1l (ix2 b 2) = Finset.univ.sup fun d : Fin 512 => pk (ix2 b d) := by
  rw [← Row.fold_max_eq_sup]
  pointwise [k0_pay19]

theorem pay19_col3 : k0_pay19 cnt s1e s1l mx s2 cnt pk s1e s1l (ix2 b 3)
    = max ((Finset.univ.sup fun d : Fin 512 => s1e (ix2 b d)) - Finset.univ.sup fun d : Fin 512 => s1l (ix2 b d))
      (-((Finset.univ.sup fun d : Fin 512 => s1e (ix2 b d)) - Finset.univ.sup fun d : Fin 512 => s1l (ix2 b d))) := by
  rw [← Row.fold_max_eq_sup, ← Row.fold_max_eq_sup, ← Ideal.absf_def]
  pointwise [k0_pay19]

theorem head_apply (f : Vec Ideal S8x4 .f32) (W1 : Vec Ideal S4x128 .f32) (b1 g be : Vec Ideal S1x128 .f32) (W2 : Vec Ideal S128x128 .f32)
    (b2 : Vec Ideal S1x128 .f32) (q : Fin 128) :
    k0_pay6 (k0_pay20 f W1 b1 g be) W2 (constant S8x128 .f32 0x00000000#32) b2 (ix2 b q)
      = Row.head (fun i => f (ix2 b i)) (fun i k => W1 (ix2 i k)) (fun k => b1 (ix2 0 k)) (fun k => g (ix2 0 k)) (fun k => be (ix2 0 k))
        (fun k j => W2 (ix2 k j)) (fun k => b2 (ix2 0 k)) q := by
  pointwise [k0_pay6, k0_pay20]
  rfl

end Point

/-! ## The features of one row -/

theorem ofNat_val (T : Fin 4096) : Fin.ofNat 4096 T.val = T := Fin.ext (Nat.mod_eq_of_lt T.isLt)

theorem sum_all (h : Fin 4096 → EReal) : ∑ T ∈ Finset.Ico 0 (512 * 8), h (Fin.ofNat 4096 T) = ∑ T, h T := by
  rw [Nat.Ico_zero_eq_range, Finset.sum_range]
  exact Finset.sum_congr rfl fun T _ => congrArg h (ofNat_val T)

theorem sum_early (h : ℕ → EReal) : ∑ T ∈ Finset.Ico 0 (512 * min 8 4), h T = ∑ t : Fin 2048, h (0 + t.val) := by
  rw [Finset.sum_Ico_eq_sum_range, show 512 * min 8 4 - 0 = 2048 by decide, Finset.sum_range]

theorem sum_late (h : ℕ → EReal) : ∑ T ∈ Finset.Ico 2048 (512 * 8), h T = ∑ t : Fin 2048, h (2048 + t.val) := by
  rw [Finset.sum_Ico_eq_sum_range, show 512 * 8 - 2048 = 2048 by decide, Finset.sum_range]

theorem sum_both (h : Fin 4096 → EReal) :
    ∑ T ∈ Finset.Ico 0 (512 * min 8 4), h (Fin.ofNat 4096 T) + ∑ T ∈ Finset.Ico 2048 (512 * 8), h (Fin.ofNat 4096 T) = ∑ T, h T := by
  rw [show 512 * min 8 4 = 2048 by decide, Finset.sum_Ico_consecutive _ (by decide) (by decide), sum_all]

theorem sup_all (h : Fin 4096 → Fin 512 → EReal) :
    ((Finset.Ico 0 (512 * 8)).sup fun T => Finset.univ.sup fun d => h (Fin.ofNat 4096 T) d)
      = Finset.univ.sup fun k : Fin 4096 × Fin 512 => h k.1 k.2 := by
  refine eq_of_forall_ge_iff fun z => ?_
  simp only [Finset.sup_le_iff, Finset.mem_univ, true_imp_iff, Finset.mem_Ico]
  constructor
  · rintro H ⟨T, d⟩
    have := H T.val ⟨Nat.zero_le _, T.isLt⟩ d
    rwa [ofNat_val] at this
  · exact fun H T _ d => H (Fin.ofNat 4096 T, d)

variable {S : Scratch Ideal} {b : Fin 8} (x : Fin 4096 → Fin 512 → EReal) (p : Fin 4096 → BitVec 1)

theorem feat_apply (h : Peaks S b (fun T d => x (Fin.ofNat 4096 T) d) (fun T => Row.weight (p (Fin.ofNat 4096 T))) 8)
    (hr : ∀ T d, Row.InRange (p T) (x T d)) (i : Fin 4) :
    k0_pay19 S.cnt S.s1e S.s1l S.mx S.s2 S.cnt S.pk S.s1e S.s1l (ix2 b i) = Row.feat x p i := by
  have hcnt : S.cnt (ix2 b 0) = ∑ T, Row.weight (p T) := h.acc.cnt.trans (sum_all fun T => Row.weight (p T))
  have hs1 : ∀ d, S.s1e (ix2 b d) + S.s1l (ix2 b d) = ∑ T, x T d * Row.weight (p T) := fun d => by
    rw [h.acc.s1e, h.acc.s1l, sum_both fun T => x T d * Row.weight (p T)]
  have hs2 : ∀ d, S.s2 (ix2 b d) = ∑ T, x T d * Row.weight (p T) * x T d := fun d =>
    (h.acc.s2 d).trans (sum_all fun T => x T d * Row.weight (p T) * x T d)
  have hthr : S.thr (ix2 b 0) = Row.threshold x fun T => Row.weight (p T) := by
    rw [h.thr]; simp only [hs1, hcnt]; rfl
  fin_cases i
  · refine ((pay19_col0 ..).trans (h.acc.mx.trans ?_)).trans (Row.feat_zero x p).symm
    rw [sup_all fun T d => x T d + (Row.weight (p T) - 1) * Ideal.ofBits .f32 0x49742400#32]
    exact Row.shifted_max x p hr
  · refine (pay19_col1 ..).trans ?_
    simp only [hs1, hs2, hcnt]
    exact Row.variance_real x p hr
  · refine (pay19_col2 ..).trans ?_
    show _ = Row.peaks x fun T => Row.weight (p T)
    refine Finset.sup_congr rfl fun d _ => (h.pk d).trans ?_
    rw [hthr]
    exact sum_all fun T => if Row.threshold x (fun T => Row.weight (p T)) < x T d then Row.weight (p T) else 0
  · refine (pay19_col3 ..).trans ?_
    simp only [h.acc.s1e, h.acc.s1l, sum_early, sum_late]
    rfl

end Cert.KernelIdeal.Gen

end
-- ==== Proof.KernelIdeal.Value.lean ====
/- Every entry of the kernel's output array as the plain mathematics of its batch row. -/
module

public import proofs.«01_k».proof.Proof.KernelIdeal.Blocks
public import proofs.«01_k».proof.Proof.KernelIdeal.Features

@[expose] public section

noncomputable section

namespace Cert.KernelIdeal.Gen

open Idealize.ShloMosaic Idealize.ShloMosaic.TcCoe Idealize.ShloMosaic.Pointwise

variable (m : (ℓ : Loc nD τ sig) → Buf (Elt Ideal) ℓ) (c : Dev nD) (B : Fin 64)

/-- The samples and the padding bits of batch row `B`. -/
def rowX (T : Fin 4096) (d : Fin 512) : EReal := (m ((c : Thread nD τ).loc main_arg0) : Vec Ideal S64x4096x512 .f32) (ix3 B T d)
def rowP (T : Fin 4096) : BitVec 1 := (m ((c : Thread nD τ).loc main_arg1) : IVec S64x4096 1) (ix2 B T)

/-- One minus the padding bit as a number is the weight. -/
theorem one_sub_bit (p : BitVec 1) : (1 : EReal) - FloatOps.uitofp (F := Ideal) .f32 p = Row.weight p := by
  rcases BitVec.eq_zero_or_eq_one p with rfl | rfl
  · show (1 : EReal) - (((0#1).toNat : ℝ) : EReal) = Row.weight 0#1
    simp [Row.weight]
  · show (1 : EReal) - (((1#1).toNat : ℝ) : EReal) = Row.weight 1#1
    rw [Row.weight, if_pos rfl, show (((1#1).toNat : ℝ) : EReal) = ((1 : ℝ) : EReal) by norm_num, ← EReal.coe_one, ← EReal.coe_sub]
    norm_num

theorem result_row (hr : ∀ T d, Row.InRange (rowP m c B T) (rowX m c B T d)) (q : Fin 128) :
    (result m c : Vec Ideal S64x128 .f32) (ix2 B q)
      = Row.head (Row.feat (rowX m c B) (rowP m c B))
        (fun i k => (m ((c : Thread nD τ).loc main_arg2) : Vec Ideal S4x128 .f32) (ix2 i k))
        (fun k => (m ((c : Thread nD τ).loc main_arg3) : Vec Ideal S128 .f32) (ix1 k))
        (fun k => (m ((c : Thread nD τ).loc main_arg4) : Vec Ideal S128 .f32) (ix1 k))
        (fun k => (m ((c : Thread nD τ).loc main_arg5) : Vec Ideal S128 .f32) (ix1 k))
        (fun k j => (m ((c : Thread nD τ).loc main_arg6) : Vec Ideal S128x128 .f32) (ix2 k j))
        (fun k => (m ((c : Thread nD τ).loc main_arg7) : Vec Ideal S128 .f32) (ix1 k)) q := by
  have hB : B.val < 64 := B.isLt
  obtain ⟨t, ht⟩ : ∃ t : Fin cfg0.N, t.val = 16 * (B.val / 8) + 15 := ⟨lastPt (B.val / 8) (by omega), rfl⟩
  obtain ⟨b, hb⟩ : ∃ b : Fin 8, b.val = B.val % 8 := ⟨⟨B.val % 8, Nat.mod_lt _ (by decide)⟩, rfl⟩
  have hpt : ∀ k < 16, (pt (16 * (B.val / 8) + k)).val = 16 * (B.val / 8) + k := fun k hk => Nat.mod_eq_of_lt (by omega)
  have hX : ∀ k < 16, ∀ s d, xAt m c (16 * (B.val / 8) + k) (ix3 b s d) = rowX m c B (Fin.ofNat 4096 (512 * (k % 8) + s.val)) d := by
    intro k hk s d
    have hs := s.isLt
    have := hpt k hk
    refine iblk_x m c (pt (16 * (B.val / 8) + k)) b s d B (by omega) _ ?_
    show (512 * (k % 8) + s.val) % 4096 = _
    omega
  have hM : ∀ k < 16, ∀ s, 1 - mAt m c (16 * (B.val / 8) + k) (ix2 b s)
      = Row.weight (rowP m c B (Fin.ofNat 4096 (512 * (k % 8) + s.val))) := by
    intro k hk s
    have hs := s.isLt
    have := hpt k hk
    rw [← one_sub_bit]
    refine congrArg (fun z : EReal => 1 - z) (iblk_m m c (pt (16 * (B.val / 8) + k)) b s B (by omega) _ ?_)
    show (512 * (k % 8) + s.val) % 4096 = _
    omega
  have hp := peaks_run (S := Scratch.zero) (b := b) (xr := fun T d => rowX m c B (Fin.ofNat 4096 T) d)
    (wr := fun T => Row.weight (rowP m c B (Fin.ofNat 4096 T))) (n := 16 * (B.val / 8)) (by omega) hX hM 7 (by decide)
  rw [show 16 * (B.val / 8) + (8 + 7 + 1) = t.val + 1 by omega] at hp
  refine (result_at m c (ix2 B q) t (by omega) (ix2 b q) (show B.val = 8 * (t.val / 16) + b.val by omega) rfl).trans ?_
  refine (head_apply b _ _ _ _ _ _ _ q).trans ?_
  simp only [iblk_W1, iblk_b1, iblk_g, iblk_be, iblk_W2, iblk_b2]
  congr 1
  exact funext fun i => feat_apply (rowX m c B) (rowP m c B) hp hr i

end Cert.KernelIdeal.Gen

end
-- ==== Proof.ReferenceIdeal.Stages.lean ====
/- The reference program's result as named stages of its own array operations, and each stage at an entry as the plain
   mathematics of one batch row. -/
module

public import proofs.«01_k».proof.Proof.Gen.ReferenceIdeal.Run
public import proofs.«01_k».proof.Proof.Row

@[expose] public section

set_option maxRecDepth 8192

noncomputable section

namespace Cert.ReferenceIdeal.Stage

open Cert.ReferenceIdeal Cert.ReferenceIdeal.Gen Idealize.ShloMosaic Idealize.ShloMosaic.TcCoe Idealize.ShloMosaic.Pointwise

/-! ## The stages -/

section Stages

variable (x : FVec Ideal S64x4096x512 .f32) (p : IVec S64x4096 1)

/-- The weight of every time step. -/
def valid : FVec Ideal S64x4096x1 .f32 := broadcastInDim S64x4096x1 ![0, 1] bcast_S64x4096_S64x4096x1_0_1 (uitofp .f32 (noti p))

def validAll : FVec Ideal S64x4096x512 .f32 :=
  broadcastInDim S64x4096x512 ![0, 1, 2] bcast_S64x4096x1_S64x4096x512_0_1_2 (valid p)

def denom : FVec Ideal S64x1 .f32 :=
  addf (Host.reduceAdd (valid p) (constant S_ .f32 0x00000000#32) reducesTo_S64x4096x1_S64x1_d1 h_S_)
    (broadcastInDim S64x1 ![] bcast_S_S64x1 (constant S_ .f32 0x322BCC77#32))

/-- A sum over time of every lane. -/
def timeSum (y : FVec Ideal S64x4096x512 .f32) : FVec Ideal S64x512 .f32 :=
  Host.reduceAdd y (constant S_ .f32 0x00000000#32) reducesTo_S64x4096x512_S64x512_d1 h_S_

/-- A weighted mean over time of every lane, from the weighted values. -/
def timeMean (y : FVec Ideal S64x4096x512 .f32) : FVec Ideal S64x512 .f32 :=
  Host.divf (timeSum y) (broadcastInDim S64x512 ![0, 1] bcast_S64x1_S64x512_0_1 (denom p))

def pooled : FVec Ideal S64x512 .f32 := timeMean p (mulf x (validAll p))

/-- The largest lane of every row. -/
def laneMax (y : FVec Ideal S64x512 .f32) : FVec Ideal S64x1 .f32 :=
  broadcastInDim S64x1 ![0] bcast_S64_S64x1_0
    (Host.reduce FloatOps.maximumf y (constant S_ .f32 0xFF800000#32) reducesTo_S64x512_S64_d1 h_S_)

def strongest : FVec Ideal S64x1 .f32 :=
  broadcastInDim S64x1 ![0] bcast_S64_S64x1_0
    (Host.reduce FloatOps.maximumf
      (select
        (broadcastInDim S64x4096x512 ![0, 1, 2] bcast_S64x4096x1_S64x4096x512_0_1_2
          (broadcastInDim S64x4096x1 ![0, 1] bcast_S64x4096_S64x4096x1_0_1 p))
        (broadcastInDim S64x4096x512 ![] bcast_S_S64x4096x512 (id (constant S_ .f32 0xC77DE800#32) : FVec Ideal S_ .f32)) x)
      (constant S_ .f32 0xFF800000#32) reducesTo_S64x4096x512_S64_d1_2 h_S_)

def offMean : FVec Ideal S64x4096x512 .f32 :=
  subf x (broadcastInDim S64x4096x512 ![0, 1, 2] bcast_S64x1x512_S64x4096x512_0_1_2
    (broadcastInDim S64x1x512 ![0, 2] bcast_S64x512_S64x1x512_0_2 (pooled x p)))

def variance : FVec Ideal S64x1 .f32 := laneMax (timeMean p (mulf (mulf (offMean x p) (offMean x p)) (validAll p)))

def threshold : FVec Ideal S64x1 .f32 :=
  mulf (laneMax (pooled x p)) (broadcastInDim S64x1 ![] bcast_S_S64x1 (constant S_ .f32 0x3F333333#32))

def above : FVec Ideal S64x4096x512 .f32 :=
  uitofp .f32 (cmpf .ogt x (broadcastInDim S64x4096x512 ![0, 1, 2] bcast_S64x1x1_S64x4096x512_0_1_2
    (broadcastInDim S64x1x1 ![0, 2] bcast_S64x1_S64x1x1_0_2 (threshold x p))))

def peaks : FVec Ideal S64x1 .f32 := laneMax (timeSum (mulf (above x p) (validAll p)))

/-- The largest weighted sum of a lane over one half of the time axis. -/
def halfMax (y : FVec Ideal S64x2048x512 .f32) (v : FVec Ideal S64x2048x1 .f32) : FVec Ideal S64x1 .f32 :=
  laneMax (Host.reduceAdd (mulf y (broadcastInDim S64x2048x512 ![0, 1, 2] bcast_S64x2048x1_S64x2048x512_0_1_2 v))
    (constant S_ .f32 0x00000000#32) reducesTo_S64x2048x512_S64x512_d1 h_S_)

def early : FVec Ideal S64x1 .f32 :=
  halfMax (extractStridedSlice S64x2048x512 ![0, 0, 0] x slices_S64x4096x512_S64x2048x512_0_0_0)
    (extractStridedSlice S64x2048x1 ![0, 0, 0] (valid p) slices_S64x4096x1_S64x2048x1_0_0_0)

def late : FVec Ideal S64x1 .f32 :=
  halfMax (extractStridedSlice S64x2048x512 ![0, 2048, 0] x slices_S64x4096x512_S64x2048x512_0_2048_0)
    (extractStridedSlice S64x2048x1 ![0, 2048, 0] (valid p) slices_S64x4096x1_S64x2048x1_0_2048_0)

def asymmetry : FVec Ideal S64x1 .f32 := Host.absf (subf (early x p) (late x p))

/-- Four columns side by side. -/
def columns (a b c d : FVec Ideal S64x1 .f32) : FVec Ideal S64x4 .f32 :=
  concatenate S64x4 1 [⟨S64x1, a⟩, ⟨S64x1, b⟩, ⟨S64x1, c⟩, ⟨S64x1, d⟩] concatenates_S64x1_S64x1_S64x1_S64x1_S64x4_d1

def features : FVec Ideal S64x4 .f32 := columns (strongest x p) (variance x p) (peaks x p) (asymmetry x p)

/-- A vector of 128 in every row. -/
def everyRow (z : FVec Ideal S128 .f32) : FVec Ideal S64x128 .f32 :=
  broadcastInDim S64x128 ![0, 1] bcast_S1x128_S64x128_0_1 (broadcastInDim S1x128 ![1] bcast_S128_S1x128_1 z)

def hidden (f : FVec Ideal S64x4 .f32) (W1 : FVec Ideal S4x128 .f32) (b1 : FVec Ideal S128 .f32) : FVec Ideal S64x128 .f32 :=
  addf (Host.dotGeneral dot_S64x4_S4x128_S64x128_1_0_0_1_n_n none f W1) (everyRow b1)

/-- The mean of every row of 128. -/
def rowMean (h : FVec Ideal S64x128 .f32) : FVec Ideal S64x1 .f32 :=
  Host.divf
    (broadcastInDim S64x1 ![0] bcast_S64_S64x1_0
      (Host.reduceAdd h (constant S_ .f32 0x00000000#32) reducesTo_S64x128_S64_d1 h_S_))
    (broadcastInDim S64x1 ![] bcast_S_S64x1 (constant S_ .f32 0x43000000#32))

def centred (h : FVec Ideal S64x128 .f32) : FVec Ideal S64x128 .f32 :=
  subf h (broadcastInDim S64x128 ![0, 1] bcast_S64x1_S64x128_0_1 (rowMean h))

def normed (h : FVec Ideal S64x128 .f32) (g be : FVec Ideal S128 .f32) : FVec Ideal S64x128 .f32 :=
  addf
    (mulf
      (Host.divf (centred h)
        (broadcastInDim S64x128 ![0, 1] bcast_S64x1_S64x128_0_1
          (Host.sqrt (addf (rowMean (mulf (centred h) (centred h)))
            (broadcastInDim S64x1 ![] bcast_S_S64x1 (constant S_ .f32 0x3727C5AC#32))))))
      (everyRow g))
    (everyRow be)

def gelu (y : FVec Ideal S64x128 .f32) : FVec Ideal S64x128 .f32 :=
  mulf (mulf (broadcastInDim S64x128 ![] bcast_S_S64x128 (constant S_ .f32 0x3F000000#32)) y)
    (Host.erfc (mulf (Host.negf y) (broadcastInDim S64x128 ![] bcast_S_S64x128 (constant S_ .f32 0x3F3504F3#32))))

def out (y : FVec Ideal S64x128 .f32) (W2 : FVec Ideal S128x128 .f32) (b2 : FVec Ideal S128 .f32) : FVec Ideal S64x128 .f32 :=
  addf (Host.dotGeneral dot_S64x128_S128x128_S64x128_1_0_0_1_n_n none y W2) (everyRow b2)

end Stages

/-- The program's result is its stages. -/
theorem res_eq (m : (ℓ : Loc nD τ sig) → Buf (Elt Ideal) ℓ) (c : Dev nD) :
    Value.res_main_v94 (F := Ideal) m c
      = out (gelu (normed
          (hidden (features (m ((c.tc : Thread nD τ).loc main_arg0)) (m ((c.tc : Thread nD τ).loc main_arg1)))
            (m ((c.tc : Thread nD τ).loc main_arg2)) (m ((c.tc : Thread nD τ).loc main_arg3)))
          (m ((c.tc : Thread nD τ).loc main_arg4)) (m ((c.tc : Thread nD τ).loc main_arg5))))
        (m ((c.tc : Thread nD τ).loc main_arg6)) (m ((c.tc : Thread nD τ).loc main_arg7)) := by
  unfold Value.res_main_v94
  rfl

end Cert.ReferenceIdeal.Stage

end
-- ==== Proof.ReferenceIdeal.Entries.lean ====
/- Every stage of the reference program, at an entry of batch row `B`, as the plain mathematics of that row. -/
module

public import proofs.«01_k».proof.Proof.ReferenceIdeal.Stages

@[expose] public section

set_option maxRecDepth 8192

noncomputable section

namespace Cert.ReferenceIdeal.Stage

open Cert.ReferenceIdeal Cert.ReferenceIdeal.Gen Idealize.ShloMosaic Idealize.ShloMosaic.TcCoe Idealize.ShloMosaic.Pointwise

/-- The flipped padding bit as a number is the weight. -/
theorem flipped_bit (b : BitVec 1) : FloatOps.uitofp (F := Ideal) .f32 (~~~b) = Row.weight b := by
  rcases BitVec.eq_zero_or_eq_one b with rfl | rfl
  · show (((~~~(0#1)).toNat : ℝ) : EReal) = Row.weight 0#1
    rw [Row.weight, if_neg (by decide), show (~~~(0#1)).toNat = 1 by decide]; norm_num
  · show (((~~~(1#1)).toNat : ℝ) : EReal) = Row.weight 1#1
    rw [Row.weight, if_pos rfl, show (~~~(1#1)).toNat = 0 by decide]; norm_num

section Row

variable (x : FVec Ideal S64x4096x512 .f32) (p : IVec S64x4096 1) (B : Fin 64)

theorem valid_apply (T : Fin 4096) : valid p (ix3 B T 0) = Row.weight (p (ix2 B T)) := by
  rw [← flipped_bit]
  pointwise [valid]

theorem validAll_apply (T : Fin 4096) (d : Fin 512) : validAll p (ix3 B T d) = Row.weight (p (ix2 B T)) := by
  rw [← valid_apply p B T]
  unfold validAll
  generalize valid p = v
  pointwise []

theorem denom_apply : denom p (ix2 B 0) = Row.denom fun T => Row.weight (p (ix2 B T)) := by
  unfold Row.denom
  simp only [← valid_apply p B]
  unfold denom
  generalize valid p = v
  pointwise []

theorem timeSum_apply (y : FVec Ideal S64x4096x512 .f32) (d : Fin 512) : timeSum y (ix2 B d) = ∑ T, y (ix3 B T d) := by
  pointwise [timeSum]

theorem timeMean_apply (y : FVec Ideal S64x4096x512 .f32) (d : Fin 512) :
    timeMean p y (ix2 B d) = Ideal.div (∑ T, y (ix3 B T d)) (Row.denom fun T => Row.weight (p (ix2 B T))) := by
  rw [← timeSum_apply, ← denom_apply]
  unfold timeMean
  generalize timeSum y = s
  generalize denom p = n
  pointwise []

theorem laneMax_apply (y : FVec Ideal S64x512 .f32) : laneMax y (ix2 B 0) = Finset.univ.sup fun d => y (ix2 B d) := by
  rw [← Row.fold_max_eq_sup]
  pointwise [laneMax]

theorem weighted_apply (y : FVec Ideal S64x4096x512 .f32) (T : Fin 4096) (d : Fin 512) :
    mulf y (validAll p) (ix3 B T d) = y (ix3 B T d) * Row.weight (p (ix2 B T)) := by
  rw [← validAll_apply p B T d]
  rfl

theorem pooled_apply (d : Fin 512) :
    pooled x p (ix2 B d) = Row.pooled (fun T d => x (ix3 B T d)) (fun T => Row.weight (p (ix2 B T))) d := by
  refine (timeMean_apply p B _ d).trans ?_
  simp only [weighted_apply]
  rfl

theorem strongest_apply : strongest x p (ix2 B 0) = Row.strongest (fun T d => x (ix3 B T d)) fun T => p (ix2 B T) := by
  unfold Row.strongest
  rw [← Row.fold_max_eq_sup]
  pointwise [strongest]
  rfl

theorem offMean_apply (T : Fin 4096) (d : Fin 512) : offMean x p (ix3 B T d)
    = x (ix3 B T d) - Row.pooled (fun T d => x (ix3 B T d)) (fun T => Row.weight (p (ix2 B T))) d := by
  rw [← pooled_apply]
  unfold offMean
  generalize pooled x p = q
  pointwise []

theorem variance_apply : variance x p (ix2 B 0)
    = Row.variance (fun T d => x (ix3 B T d)) fun T => Row.weight (p (ix2 B T)) := by
  refine (laneMax_apply B _).trans (Finset.sup_congr rfl fun d _ => ?_)
  refine (timeMean_apply p B _ d).trans ?_
  simp only [weighted_apply]
  refine congrArg (fun z => Ideal.div z _) (Finset.sum_congr rfl fun T _ => ?_)
  rw [← offMean_apply]
  rfl

theorem threshold_apply : threshold x p (ix2 B 0)
    = Row.threshold (fun T d => x (ix3 B T d)) fun T => Row.weight (p (ix2 B T)) := by
  unfold Row.threshold
  simp only [← pooled_apply, ← laneMax_apply]
  unfold threshold
  generalize laneMax (pooled x p) = q
  pointwise []

/-- A comparison's bit as a number. -/
theorem decided_bit (P : Prop) [Decidable P] :
    FloatOps.uitofp (F := Ideal) .f32 (BitVec.ofBool (decide P)) = if P then (1 : EReal) else 0 := by
  by_cases h : P
  · rw [decide_eq_true h, if_pos h]
    show (((BitVec.ofBool true).toNat : ℝ) : EReal) = 1
    rw [show (BitVec.ofBool true).toNat = 1 by decide]; norm_num
  · rw [decide_eq_false h, if_neg h]
    show (((BitVec.ofBool false).toNat : ℝ) : EReal) = 0
    rw [show (BitVec.ofBool false).toNat = 0 by decide]; norm_num

theorem above_apply (T : Fin 4096) (d : Fin 512) : above x p (ix3 B T d)
    = if Row.threshold (fun T d => x (ix3 B T d)) (fun T => Row.weight (p (ix2 B T))) < x (ix3 B T d) then 1 else 0 := by
  rw [← threshold_apply]
  unfold above
  generalize threshold x p = q
  pointwise []
  exact decided_bit _

theorem peaks_apply : peaks x p (ix2 B 0)
    = Row.peaks (fun T d => x (ix3 B T d)) fun T => Row.weight (p (ix2 B T)) := by
  refine (laneMax_apply B _).trans (Finset.sup_congr rfl fun d _ => ?_)
  refine (timeSum_apply B _ d).trans (Finset.sum_congr rfl fun T _ => ?_)
  rw [weighted_apply, above_apply, ite_mul, one_mul, zero_mul]

theorem halfMax_apply (y : FVec Ideal S64x2048x512 .f32) (v : FVec Ideal S64x2048x1 .f32) :
    halfMax y v (ix2 B 0) = Finset.univ.sup fun d : Fin 512 => ∑ t : Fin 2048, y (ix3 B t d) * v (ix3 B t 0) := by
  refine (laneMax_apply B _).trans (Finset.sup_congr rfl fun d _ => ?_)
  pointwise []

theorem early_apply : early x p (ix2 B 0)
    = Row.half (fun T d => x (ix3 B T d)) (fun T => Row.weight (p (ix2 B T))) 0 := by
  refine (halfMax_apply B _ _).trans (Finset.sup_congr rfl fun d _ => Finset.sum_congr rfl fun t _ => ?_)
  simp only [← valid_apply]
  generalize valid p = v
  have e : (Fin.ofNat 4096 (0 + t.val) : Fin 4096) = ⟨t.val, by omega⟩ := Fin.ext (by show (0 + t.val) % 4096 = t.val; omega)
  rw [e]
  pointwise []

theorem late_apply : late x p (ix2 B 0)
    = Row.half (fun T d => x (ix3 B T d)) (fun T => Row.weight (p (ix2 B T))) 2048 := by
  refine (halfMax_apply B _ _).trans (Finset.sup_congr rfl fun d _ => Finset.sum_congr rfl fun t _ => ?_)
  simp only [← valid_apply]
  generalize valid p = v
  have e : (Fin.ofNat 4096 (2048 + t.val) : Fin 4096) = ⟨2048 + t.val, by omega⟩ :=
    Fin.ext (by show (2048 + t.val) % 4096 = 2048 + t.val; omega)
  rw [e]
  pointwise []

theorem asymmetry_apply : asymmetry x p (ix2 B 0)
    = Row.asymmetry (fun T d => x (ix3 B T d)) fun T => Row.weight (p (ix2 B T)) := by
  unfold Row.asymmetry
  rw [← early_apply, ← late_apply]
  rfl

theorem columns_apply (a b c d : FVec Ideal S64x1 .f32) (i : Fin 4) :
    columns a b c d (ix2 B i) = (![a (ix2 B 0), b (ix2 B 0), c (ix2 B 0), d (ix2 B 0)] : Fin 4 → EReal) i := by
  fin_cases i
  · show columns a b c d (ix2 B 0) = a (ix2 B 0)
    pointwise [columns]
  · show columns a b c d (ix2 B 1) = b (ix2 B 0)
    pointwise [columns]
  · show columns a b c d (ix2 B 2) = c (ix2 B 0)
    pointwise [columns]
  · show columns a b c d (ix2 B 3) = d (ix2 B 0)
    pointwise [columns]

theorem features_apply (i : Fin 4) :
    features x p (ix2 B i) = Row.feat (fun T d => x (ix3 B T d)) (fun T => p (ix2 B T)) i := by
  refine (columns_apply B _ _ _ _ i).trans ?_
  rw [strongest_apply, variance_apply, peaks_apply, asymmetry_apply, Row.feat]

end Row

/-! ## The head -/

section Head

variable (B : Fin 64)

theorem everyRow_apply (z : FVec Ideal S128 .f32) (k : Fin 128) : everyRow z (ix2 B k) = z (ix1 k) := by
  pointwise [everyRow]

theorem hidden_apply (f : FVec Ideal S64x4 .f32) (W1 : FVec Ideal S4x128 .f32) (b1 : FVec Ideal S128 .f32) (k : Fin 128) :
    hidden f W1 b1 (ix2 B k) = Row.hidden (fun i => f (ix2 B i)) (fun i k => W1 (ix2 i k)) (fun k => b1 (ix1 k)) k := by
  unfold Row.hidden
  pointwise [hidden, everyRow]

theorem rowMean_apply (h : FVec Ideal S64x128 .f32) : rowMean h (ix2 B 0) = Row.mean fun k => h (ix2 B k) := by
  unfold Row.mean
  pointwise [rowMean]

theorem centred_apply (h : FVec Ideal S64x128 .f32) (k : Fin 128) :
    centred h (ix2 B k) = h (ix2 B k) - Row.mean fun k => h (ix2 B k) := by
  rw [← rowMean_apply]
  unfold centred
  generalize rowMean h = q
  pointwise []

theorem square_apply (h : FVec Ideal S64x128 .f32) (k : Fin 128) :
    mulf (centred h) (centred h) (ix2 B k)
      = (h (ix2 B k) - Row.mean fun k => h (ix2 B k)) * (h (ix2 B k) - Row.mean fun k => h (ix2 B k)) := by
  rw [← centred_apply]; rfl

theorem normed_apply (h : FVec Ideal S64x128 .f32) (g be : FVec Ideal S128 .f32) (k : Fin 128) :
    normed h g be (ix2 B k) = Row.normed (fun k => g (ix1 k)) (fun k => be (ix1 k)) (fun k => h (ix2 B k)) k := by
  have hv := rowMean_apply B (mulf (centred h) (centred h))
  simp only [square_apply] at hv
  unfold Row.normed
  rw [← hv, ← centred_apply]
  unfold normed
  generalize rowMean (mulf (centred h) (centred h)) = v
  generalize centred h = e
  pointwise [everyRow]

theorem gelu_apply (y : FVec Ideal S64x128 .f32) (k : Fin 128) : gelu y (ix2 B k) = Row.gelu (y (ix2 B k)) := by
  unfold Row.gelu
  rw [← Ideal.erfc_neg, ← EReal.neg_mul]
  pointwise [gelu]

theorem out_apply (y : FVec Ideal S64x128 .f32) (W2 : FVec Ideal S128x128 .f32) (b2 : FVec Ideal S128 .f32) (q : Fin 128) :
    out y W2 b2 (ix2 B q) = ∑ k, y (ix2 B k) * W2 (ix2 k q) + b2 (ix1 q) := by
  pointwise [out, everyRow]

end Head

/-- The reference's result at row `B` and column `q`. -/
theorem res_row (m : (ℓ : Loc nD τ sig) → Buf (Elt Ideal) ℓ) (c : Dev nD) (B : Fin 64) (q : Fin 128) :
    (Value.res_main_v94 (F := Ideal) m c : FVec Ideal S64x128 .f32) (ix2 B q)
      = Row.head
        (Row.feat (fun T d => (m ((c.tc : Thread nD τ).loc main_arg0) : FVec Ideal S64x4096x512 .f32) (ix3 B T d))
          (fun T => (m ((c.tc : Thread nD τ).loc main_arg1) : IVec S64x4096 1) (ix2 B T)))
        (fun i k => (m ((c.tc : Thread nD τ).loc main_arg2) : FVec Ideal S4x128 .f32) (ix2 i k))
        (fun k => (m ((c.tc : Thread nD τ).loc main_arg3) : FVec Ideal S128 .f32) (ix1 k))
        (fun k => (m ((c.tc : Thread nD τ).loc main_arg4) : FVec Ideal S128 .f32) (ix1 k))
        (fun k => (m ((c.tc : Thread nD τ).loc main_arg5) : FVec Ideal S128 .f32) (ix1 k))
        (fun k j => (m ((c.tc : Thread nD τ).loc main_arg6) : FVec Ideal S128x128 .f32) (ix2 k j))
        (fun k => (m ((c.tc : Thread nD τ).loc main_arg7) : FVec Ideal S128 .f32) (ix1 k)) q := by
  rw [res_eq]
  refine (out_apply B _ _ _ q).trans ?_
  simp only [gelu_apply, normed_apply, hidden_apply, features_apply]
  rfl

end Cert.ReferenceIdeal.Stage

end
-- ==== Proof.Algebraic.lean ====
/- The two programs' results are equal: entry by entry both are the same function of their batch row. -/
module

public import proofs.«01_k».proof.Defs
public import proofs.«01_k».proof.Proof.InRange
public import proofs.«01_k».proof.Proof.KernelIdeal.Value
public import proofs.«01_k».proof.Proof.ReferenceIdeal.Entries

@[expose] public section

noncomputable section

namespace Cert.Proof

open Idealize.ShloMosaic Idealize.ShloMosaic.Pointwise Idealize.SL.Sem

theorem pre_bounds [Cert.Pre_in_range.Facts]
    {m : (ℓ : Loc Cert.KernelIdeal.nD Cert.KernelIdeal.τ Cert.KernelIdeal.sig) → Buf (Elt Ideal) ℓ} (h : Pre_KernelIdeal_in_range m)
    (c : Dev Cert.KernelIdeal.nD) (B : Fin 64) (T : Fin 4096) (d : Fin 512) :
    Row.InRange (Cert.KernelIdeal.Gen.rowP m c B T) (Cert.KernelIdeal.Gen.rowX m c B T d) :=
  Cert.Pre_in_range.bounds _ _ _ _ _ _ _ _ (h c) B T d

theorem algebraic [Cert.Pre_in_range.Facts] :
    algebraic_KernelIdeal_ReferenceIdeal_pre_in_range (hKernelIdeal := Cert.KernelIdeal.Gen.facts)
      (hReferenceIdeal := Cert.ReferenceIdeal.Gen.facts) := by
  intro m g m' g' hpre hargs
  refine ⟨fun c => Cert.KernelIdeal.Gen.result m c, Cert.KernelIdeal.Gen.run_result m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7⟩ := hargs c
  funext i
  obtain ⟨B, q, rfl⟩ : ∃ (B : Fin 64) (q : Fin 128), i = ix2 B q := ⟨i 0, i 1, by
    funext a
    match a with
    | 0 => rfl
    | 1 => rfl⟩
  refine (Cert.ReferenceIdeal.Stage.res_row m' c B q).trans ?_
  rw [h0, h1, h2, h3, h4, h5, h6, h7]
  exact (Cert.KernelIdeal.Gen.result_row m c B (pre_bounds hpre c B) q).symm

end Cert.Proof

end
-- ==== Proof.lean ====
module

public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Gen.Pre_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m g _ => Cert.Kernel.Gen.frame m g,
  fun m g _ => Cert.KernelIdeal.Gen.frame m g,
  fun m g _ => Cert.KernelIdeal.Gen.frame m g,
  fun m g _ => (θ_run Cert.ReferenceIdeal.defs _ _).mono (fun r h => ⟨fun c => (h c).2, sem_eq_zero_of_no_sems (by decide) r.2⟩)
    (Cert.ReferenceIdeal.Value.run (F := Ideal) m g),
  fun m g _ => (θ_run Cert.ReferenceIdeal.defs _ _).mono (fun r h => ⟨fun c => (h c).2, sem_eq_zero_of_no_sems (by decide) r.2⟩)
    (Cert.ReferenceIdeal.Value.run (F := Ideal) m g),
  trivial,
  haveI := Cert.Pre_in_range.Gen.facts
  algebraic⟩

end Cert.Proof

end
